-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x256x256 : Shape := ⟨4, ![16, 64, 256, 256]⟩
abbrev S16 : Shape := ⟨1, ![16]⟩
abbrev S64 : Shape := ⟨1, ![64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16 .f32) (main_arg8 : FVec F S16 .f32) (main_arg9 : FVec F S16 .f32) (main_arg10 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S16 .f32) (main_arg5 : FVec F S16 .f32) (main_arg6 : FVec F S16 .f32) (main_arg7 : FVec F S16 .f32) (main_arg8 : FVec F S16 .f32) (main_arg9 : FVec F S16 .f32) (main_arg10 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x64x256x256 .f32) (main_arg1 : FVec F S16 .f32) (main_arg2 : FVec F S16 .f32) (main_arg3 : FVec F S16 .f32) (main_arg4 : FVec F S16 .f32) (main_arg5 : FVec F S16 .f32) (main_arg6 : FVec F S16 .f32) (main_arg7 : FVec F S16 .f32) (main_arg8 : FVec F S16 .f32) (main_arg9 : FVec F S16 .f32) (main_arg10 : FVec F S16 .f32) (main_arg11 : FVec F S64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_v13 main_v16
-- ==== Kernel.lean ====
abbrev S16x64x256x256 : Shape := ⟨4, ![16, 64, 256, 256]⟩
abbrev S16 : Shape := ⟨1, ![16]⟩
abbrev S64 : Shape := ⟨1, ![64]⟩
abbrev S16x14x16x256 : Shape := ⟨4, ![16, 14, 16, 256]⟩
abbrev S1x64x128x256 : Shape := ⟨4, ![1, 64, 128, 256]⟩
abbrev S1x14x16x256 : Shape := ⟨4, ![1, 14, 16, 256]⟩
abbrev S1x16x128x256 : Shape := ⟨4, ![1, 16, 128, 256]⟩
abbrev S16x128x256 : Shape := ⟨3, ![16, 128, 256]⟩
abbrev S16x256 : Shape := ⟨2, ![16, 256]⟩
abbrev S1x1x16x256 : Shape := ⟨4, ![1, 1, 16, 256]⟩
abbrev S20x16 : Shape := ⟨2, ![20, 16]⟩
abbrev S14x16x256 : Shape := ⟨3, ![14, 16, 256]⟩
abbrev S14x16 : Shape := ⟨2, ![14, 16]⟩
abbrev S1x16 : Shape := ⟨2, ![1, 16]⟩
abbrev S1x1x128x256 : Shape := ⟨4, ![1, 1, 128, 256]⟩
abbrev S128x256 : Shape := ⟨2, ![128, 256]⟩
abbrev S1x1 : Shape := ⟨2, ![1, 1]⟩

abbrev nBuf : Space → Nat
  | .hbm => 15
  | .vmem => 21
  | .smem => 1
  | _ => 0

abbrev bufTy : (tb : Table) → Fin (tcTables nBuf tb) → BufTy
  | .hbm, ⟨0, _⟩ => ⟨S16x64x256x256, .f32⟩
  | .hbm, ⟨1, _⟩ => ⟨S16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S64, .f32⟩
  | .hbm, ⟨12, _⟩ => ⟨S16x14x16x256, .f32⟩
  | .hbm, ⟨13, _⟩ => ⟨S20x16, .f32⟩
  | .hbm, ⟨14, _⟩ => ⟨S16x64x256x256, .f32⟩
  | .local _ .vmem, ⟨0, _⟩ => ⟨S1x64x128x256, .f32⟩
  | .local _ .vmem, ⟨1, _⟩ => ⟨S1x64x128x256, .f32⟩
  | .local _ .vmem, ⟨2, _⟩ => ⟨S1x14x16x256, .f32⟩
  | .local _ .vmem, ⟨3, _⟩ => ⟨S1x14x16x256, .f32⟩
  | .local _ .vmem, ⟨4, _⟩ => ⟨S16x14x16x256, .f32⟩
  | .local _ .vmem, ⟨5, _⟩ => ⟨S16, .f32⟩
  | .local _ .vmem, ⟨6, _⟩ => ⟨S16, .f32⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S16, .f32⟩
  | .local _ .vmem, ⟨13, _⟩ => ⟨S16, .f32⟩
  | .local _ .vmem, ⟨14, _⟩ => ⟨S16, .f32⟩
  | .local _ .vmem, ⟨15, _⟩ => ⟨S64, .f32⟩
  | .local _ .vmem, ⟨16, _⟩ => ⟨S20x16, .f32⟩
  | .local _ .vmem, ⟨17, _⟩ => ⟨S1x64x128x256, .f32⟩
  | .local _ .vmem, ⟨18, _⟩ => ⟨S1x64x128x256, .f32⟩
  | .local _ .vmem, ⟨19, _⟩ => ⟨S1x64x128x256, .f32⟩
  | .local _ .vmem, ⟨20, _⟩ => ⟨S1x64x128x256, .f32⟩
  | .local _ .smem, ⟨0, _⟩ => ⟨S20x16, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_25 : BitVec 32 := 0#32
  let v34 : BitVec 1 := Scalar.cmpi .ne v33 c0_i32_25
  v34

def k0_cond2 (i : grid0.Coords) : BitVec 1 :=
  let arg1 : BitVec 32 := BitVec.ofNat 32 (i 1).val
  let c0_i32_26 : BitVec 32 := 0#32
  let v35 : BitVec 1 := Scalar.cmpi .ne arg1 c0_i32_26
  let v36 : BitVec 32 := Scalar.extui v35
  let c0_i32_27 : BitVec 32 := 0#32
  let v37 : BitVec 1 := Scalar.cmpi .ne v36 c0_i32_27
  v37

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x14x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S16x14x16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S20x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 1 → Memref sig .tc .smem S20x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x64x128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S16x64x256x256 : Shape := ⟨4, ![16, 64, 256, 256]⟩
abbrev S16 : Shape := ⟨1, ![16]⟩
abbrev S64 : Shape := ⟨1, ![64]⟩
abbrev S_ : Shape := ⟨0, ![]⟩
abbrev S1x64x1x1 : Shape := ⟨4, ![1, 64, 1, 1]⟩
abbrev S16x16x256x256 : Shape := ⟨4, ![16, 16, 256, 256]⟩
abbrev S1x16x1x1 : Shape := ⟨4, ![1, 16, 1, 1]⟩

abbrev nBuf : Space → Nat
  | .hbm => 238
  | .vmem => 0
  | .smem => 0
  | _ => 0

abbrev hbmTy0_0 (i : Nat) : BufTy := match i % 128 with
  | 0 => ⟨S16x64x256x256, .f32⟩
  | 1 => ⟨S16, .f32⟩
  | 2 => ⟨S16, .f32⟩
  | 3 => ⟨S16, .f32⟩
  | 4 => ⟨S16, .f32⟩
  | 5 => ⟨S16, .f32⟩
  | 6 => ⟨S16, .f32⟩
  | 7 => ⟨S16, .f32⟩
  | 8 => ⟨S16, .f32⟩
  | 9 => ⟨S16, .f32⟩
  | 10 => ⟨S16, .f32⟩
  | 11 => ⟨S64, .f32⟩
  | 12 => ⟨S_, .f32⟩
  | 13 => ⟨S64, .f32⟩
  | 14 => ⟨S1x64x1x1, .f32⟩
  | 15 => ⟨S_, .f32⟩
  | 16 => ⟨S1x64x1x1, .f32⟩
  | 17 => ⟨S1x64x1x1, .f32⟩
  | 18 => ⟨S16x64x256x256, .f32⟩
  | 19 => ⟨S16x64x256x256, .f32⟩
  | 20 => ⟨S16x16x256x256, .f32⟩
  | 21 => ⟨S16x16x256x256, .f32⟩
  | 22 => ⟨S16x16x256x256, .f32⟩
  | 23 => ⟨S16x16x256x256, .f32⟩
  | 24 => ⟨S16x16x256x256, .f32⟩
  | 25 => ⟨S_, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S16x16x256x256, .f32⟩
  | 34 => ⟨S_, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S16x16x256x256, .f32⟩
  | 43 => ⟨S_, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S16x16x256x256, .f32⟩
  | 52 => ⟨S_, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S16x16x256x256, .f32⟩
  | 61 => ⟨S_, .f32⟩
  | 62 => ⟨S16, .f32⟩
  | 63 => ⟨S_, .f32⟩
  | 64 => ⟨S16, .f32⟩
  | 65 => ⟨S16, .f32⟩
  | 66 => ⟨S16x16x256x256, .f32⟩
  | 67 => ⟨S_, .f32⟩
  | 68 => ⟨S16, .f32⟩
  | 69 => ⟨S_, .f32⟩
  | 70 => ⟨S16, .f32⟩
  | 71 => ⟨S16, .f32⟩
  | 72 => ⟨S16x16x256x256, .f32⟩
  | 73 => ⟨S_, .f32⟩
  | 74 => ⟨S16, .f32⟩
  | 75 => ⟨S_, .f32⟩
  | 76 => ⟨S16, .f32⟩
  | 77 => ⟨S16, .f32⟩
  | 78 => ⟨S16x16x256x256, .f32⟩
  | 79 => ⟨S_, .f32⟩
  | 80 => ⟨S16, .f32⟩
  | 81 => ⟨S_, .f32⟩
  | 82 => ⟨S16, .f32⟩
  | 83 => ⟨S16, .f32⟩
  | 84 => ⟨S16x16x256x256, .f32⟩
  | 85 => ⟨S_, .f32⟩
  | 86 => ⟨S16, .f32⟩
  | 87 => ⟨S_, .f32⟩
  | 88 => ⟨S16, .f32⟩
  | 89 => ⟨S16, .f32⟩
  | 90 => ⟨S16x16x256x256, .f32⟩
  | 91 => ⟨S_, .f32⟩
  | 92 => ⟨S16, .f32⟩
  | 93 => ⟨S_, .f32⟩
  | 94 => ⟨S16, .f32⟩
  | 95 => ⟨S16, .f32⟩
  | 96 => ⟨S16, .f32⟩
  | 97 => ⟨S16, .f32⟩
  | 98 => ⟨S16, .f32⟩
  | 99 => ⟨S16, .f32⟩
  | 100 => ⟨S16, .f32⟩
  | 101 => ⟨S16, .f32⟩
  | 102 => ⟨S16, .f32⟩
  | 103 => ⟨S16, .f32⟩
  | 104 => ⟨S16, .f32⟩
  | 105 => ⟨S16, .f32⟩
  | 106 => ⟨S16, .f32⟩
  | 107 => ⟨S16, .f32⟩
  | 108 => ⟨S16, .f32⟩
  | 109 => ⟨S16, .f32⟩
  | 110 => ⟨S16, .f32⟩
  | 111 => ⟨S16, .f32⟩
  | 112 => ⟨S16, .f32⟩
  | 113 => ⟨S16, .f32⟩
  | 114 => ⟨S16, .f32⟩
  | 115 => ⟨S16, .f32⟩
  | 116 => ⟨S16, .f32⟩
  | 117 => ⟨S16, .f32⟩
  | 118 => ⟨S16, .f32⟩
  | 119 => ⟨S16, .f32⟩
  | 120 => ⟨S16, .f32⟩
  | 121 => ⟨S16, .f32⟩
  | 122 => ⟨S16, .f32⟩
  | 123 => ⟨S16, .f32⟩
  | 124 => ⟨S16, .f32⟩
  | 125 => ⟨S16, .f32⟩
  | 126 => ⟨S1x16x1x1, .f32⟩
  | 127 => ⟨S1x16x1x1, .f32⟩
  | _ => ⟨S16x64x256x256, .f32⟩

abbrev hbmTy0_1 (i : Nat) : BufTy := match i % 128 with
  | 0 => ⟨S1x16x1x1, .f32⟩
  | 1 => ⟨S1x16x1x1, .f32⟩
  | 2 => ⟨S1x16x1x1, .f32⟩
  | 3 => ⟨S1x16x1x1, .f32⟩
  | 4 => ⟨S1x16x1x1, .f32⟩
  | 5 => ⟨S1x16x1x1, .f32⟩
  | 6 => ⟨S1x16x1x1, .f32⟩
  | 7 => ⟨S1x16x1x1, .f32⟩
  | 8 => ⟨S16x16x256x256, .f32⟩
  | 9 => ⟨S16x16x256x256, .f32⟩
  | 10 => ⟨S16x16x256x256, .f32⟩
  | 11 => ⟨S16x16x256x256, .f32⟩
  | 12 => ⟨S16x16x256x256, .f32⟩
  | 13 => ⟨S16x16x256x256, .f32⟩
  | 14 => ⟨S16x16x256x256, .f32⟩
  | 15 => ⟨S16x16x256x256, .f32⟩
  | 16 => ⟨S16x16x256x256, .f32⟩
  | 17 => ⟨S16x16x256x256, .f32⟩
  | 18 => ⟨S16x16x256x256, .f32⟩
  | 19 => ⟨S16x16x256x256, .f32⟩
  | 20 => ⟨S16x16x256x256, .f32⟩
  | 21 => ⟨S16x16x256x256, .f32⟩
  | 22 => ⟨S16x16x256x256, .f32⟩
  | 23 => ⟨S16x16x256x256, .f32⟩
  | 24 => ⟨S16x16x256x256, .f32⟩
  | 25 => ⟨S16x16x256x256, .f32⟩
  | 26 => ⟨S16x16x256x256, .f32⟩
  | 27 => ⟨S16x16x256x256, .f32⟩
  | 28 => ⟨S16x16x256x256, .f32⟩
  | 29 => ⟨S16x16x256x256, .f32⟩
  | 30 => ⟨S16x16x256x256, .f32⟩
  | 31 => ⟨S16x16x256x256, .f32⟩
  | 32 => ⟨S16x16x256x256, .f32⟩
  | 33 => ⟨S16x16x256x256, .f32⟩
  | 34 => ⟨S16x16x256x256, .f32⟩
  | 35 => ⟨S16x16x256x256, .f32⟩
  | 36 => ⟨S16x16x256x256, .f32⟩
  | 37 => ⟨S16x16x256x256, .f32⟩
  | 38 => ⟨S16x16x256x256, .f32⟩
  | 39 => ⟨S16x16x256x256, .f32⟩
  | 40 => ⟨S16x16x256x256, .f32⟩
  | 41 => ⟨S16x16x256x256, .f32⟩
  | 42 => ⟨S16x16x256x256, .f32⟩
  | 43 => ⟨S16x16x256x256, .f32⟩
  | 44 => ⟨S16x16x256x256, .f32⟩
  | 45 => ⟨S16x16x256x256, .f32⟩
  | 46 => ⟨S16x16x256x256, .f32⟩
  | 47 => ⟨S16x16x256x256, .f32⟩
  | 48 => ⟨S16x16x256x256, .f32⟩
  | 49 => ⟨S16x16x256x256, .f32⟩
  | 50 => ⟨S16x16x256x256, .f32⟩
  | 51 => ⟨S16x16x256x256, .f32⟩
  | 52 => ⟨S1x16x1x1, .f32⟩
  | 53 => ⟨S1x16x1x1, .f32⟩
  | 54 => ⟨S1x16x1x1, .f32⟩
  | 55 => ⟨S1x16x1x1, .f32⟩
  | 56 => ⟨S1x16x1x1, .f32⟩
  | 57 => ⟨S1x16x1x1, .f32⟩
  | 58 => ⟨S1x16x1x1, .f32⟩
  | 59 => ⟨S1x16x1x1, .f32⟩
  | 60 => ⟨S1x16x1x1, .f32⟩
  | 61 => ⟨S1x16x1x1, .f32⟩
  | 62 => ⟨S16x16x256x256, .f32⟩
  | 63 => ⟨S16x16x256x256, .f32⟩
  | 64 => ⟨S16x16x256x256, .f32⟩
  | 65 => ⟨S16x16x256x256, .f32⟩
  | 66 => ⟨S16x16x256x256, .f32⟩
  | 67 => ⟨S16x16x256x256, .f32⟩
  | 68 => ⟨S16x16x256x256, .f32⟩
  | 69 => ⟨S16x16x256x256, .f32⟩
  | 70 => ⟨S16x16x256x256, .f32⟩
  | 71 => ⟨S16x16x256x256, .f32⟩
  | 72 => ⟨S16x16x256x256, .f32⟩
  | 73 => ⟨S16x16x256x256, .f32⟩
  | 74 => ⟨S16x16x256x256, .f32⟩
  | 75 => ⟨S16x16x256x256, .f32⟩
  | 76 => ⟨S16x16x256x256, .f32⟩
  | 77 => ⟨S16x16x256x256, .f32⟩
  | 78 => ⟨S16x16x256x256, .f32⟩
  | 79 => ⟨S16x16x256x256, .f32⟩
  | 80 => ⟨S16x16x256x256, .f32⟩
  | 81 => ⟨S16x16x256x256, .f32⟩
  | 82 => ⟨S16x16x256x256, .f32⟩
  | 83 => ⟨S16x16x256x256, .f32⟩
  | 84 => ⟨S16x16x256x256, .f32⟩
  | 85 => ⟨S16x16x256x256, .f32⟩
  | 86 => ⟨S16x16x256x256, .f32⟩
  | 87 => ⟨S16x16x256x256, .f32⟩
  | 88 => ⟨S16x16x256x256, .f32⟩
  | 89 => ⟨S16x16x256x256, .f32⟩
  | 90 => ⟨S16x16x256x256, .f32⟩
  | 91 => ⟨S16x16x256x256, .f32⟩
  | 92 => ⟨S16x16x256x256, .f32⟩
  | 93 => ⟨S16x16x256x256, .f32⟩
  | 94 => ⟨S16x16x256x256, .f32⟩
  | 95 => ⟨S16x16x256x256, .f32⟩
  | 96 => ⟨S16x16x256x256, .f32⟩
  | 97 => ⟨S16x16x256x256, .f32⟩
  | 98 => ⟨S16x16x256x256, .f32⟩
  | 99 => ⟨S16x16x256x256, .f32⟩
  | 100 => ⟨S16x16x256x256, .f32⟩
  | 101 => ⟨S16x16x256x256, .f32⟩
  | 102 => ⟨S16x16x256x256, .f32⟩
  | 103 => ⟨S16x16x256x256, .f32⟩
  | 104 => ⟨S16x16x256x256, .f32⟩
  | 105 => ⟨S16x16x256x256, .f32⟩
  | 106 => ⟨S16x64x256x256, .f32⟩
  | 107 => ⟨S1x64x1x1, .f32⟩
  | 108 => ⟨S16x64x256x256, .f32⟩
  | 109 => ⟨S16x64x256x256, .f32⟩
  | _ => ⟨S16x64x256x256, .f32⟩

abbrev hbmTy (i : Nat) : BufTy := match i / 128 with
  | 0 => hbmTy0_0 i
  | 1 => hbmTy0_1 i
  | _ => ⟨S16x64x256x256, .f32⟩

abbrev bufTy : (tb : Table) → Fin (tcTables nBuf tb) → BufTy
  | .hbm, ⟨i, _⟩ => hbmTy i
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_cst_12 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_13 : Ref sig .tc := ⟨.hbm, 61, rfl⟩
abbrev main_v35 : Ref sig .tc := ⟨.hbm, 62, rfl⟩
abbrev main_cst_14 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_v43 : Ref sig .tc := ⟨.hbm, 74, rfl⟩
abbrev main_cst_18 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_19 : Ref sig .tc := ⟨.hbm, 79, rfl⟩
abbrev main_v47 : Ref sig .tc := ⟨.hbm, 80, rfl⟩
abbrev main_cst_20 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_21 : Ref sig .tc := ⟨.hbm, 85, rfl⟩
abbrev main_v51 : Ref sig .tc := ⟨.hbm, 86, rfl⟩
abbrev main_cst_22 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_23 : Ref sig .tc := ⟨.hbm, 91, rfl⟩
abbrev main_v55 : Ref sig .tc := ⟨.hbm, 92, rfl⟩
abbrev main_cst_24 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩

abbrev nD : Nat := 1
abbrev τ : Topo := Topo.v7x

variable {F : FTy → Type} [FloatOps F]
-- ==== Proof.Frame0.lean ====
/- The statistics call: its two branches run, the accumulation point by point, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block operand `w` of the statistics call reads at point `t`, from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 of the statistics call holds its block before the body, for any run data whose array is the one the call finds and whose body leaves that block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The condition of the first branch of the statistics call. -/
abbrev cond0_0 (i : grid0.Coords) : Prop := k0_cond1 i = 1#1
/-- The first branch is taken at the first half of an image. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- The condition of the second branch of the statistics call. -/
abbrev cond0_1 (i : grid0.Coords) : Prop := k0_cond2 i = 1#1
/-- The second branch is taken at the second half of an image. -/
theorem hcond0_1 : ∀ t : Fin cfg0.N, cond0_1 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-- Operand 0 of the statistics call is in use at such a point. -/
theorem liveAt0_0 : ∀ t : Fin cfg0.N, cfg0.idle 0 (grid0.coords t) = false := fun _ => rfl
/-- At which points operand 1 of the statistics call starts a new block. -/
def freshTab0_1 : ℕ → Bool
  | 0 => true
  | n + 1 => (0xaaaaaaaa : ℕ).testBit n
/-- The table of new blocks agrees with the call at each point. -/
theorem freshTab0_1_step : ∀ t : Fin cfg0.N,
    freshTab0_1 (t.val + 1) = ((cfg0.win 1).flush t || (cfg0.idle 1 (cfg0.grid.coords t) && freshTab0_1 t.val)) := by decide +kernel
/-- The call starts a new block of operand 1 where the table says so. -/
theorem fresh0_1_eq (t : Fin cfg0.N) : cfg0.fresh 1 t.val = freshTab0_1 t.val :=
  Pipeline.Cfg.fresh_tab cfg0 1 freshTab0_1 rfl freshTab0_1_step t.val (Nat.le_of_lt t.isLt)
/-- Operand 1 of the statistics call is in use at such a point. -/
theorem liveAt0_1_A : ∀ t : Fin cfg0.N, cond0_0 (grid0.coords t) → ¬cond0_1 (grid0.coords t) → cfg0.idle 1 (grid0.coords t) = false := by decide +kernel
/-- Operand 1 of the statistics call is in use at such a point. -/
theorem liveAt0_1_B : ∀ t : Fin cfg0.N, ¬cond0_0 (grid0.coords t) → cond0_1 (grid0.coords t) → cfg0.idle 1 (grid0.coords t) = false := by decide +kernel
/-- At the second half of an image operand 1 keeps its block. -/
theorem notFresh0_1_B : ∀ t : Fin cfg0.N, ¬cond0_0 (grid0.coords t) → cond0_1 (grid0.coords t) → cfg0.fresh 1 t.val = false := by
  intro t; rw [fresh0_1_eq t]; revert t; decide +kernel

/-- The whole staging buffer of operand 1 of the statistics call. -/
abbrev VO0_1 : View sig .tc .vmem S1x14x16x256 .f32 := (Memref.whole cc0_stg1_0 : Memref sig .tc .vmem S1x14x16x256 .f32).view
/-- The staging buffer of operand 0 of the statistics call at point `t`. -/
abbrev ms0_0 (t : Fin cfg0.N) : Memref sig .tc .vmem S1x64x128x256 .f32 := win0_0.stage (cfg0.slots t 0)
/-- That buffer is a whole one. -/
abbrev hs0_0 (t : Fin cfg0.N) : (ms0_0 t).IsWhole := hstage0_0 ((cfg0.slots t 0).cast nbuf0_0)
/-- The staging buffer of operand 1 of the statistics call at point `t`. -/
abbrev ms0_1 (t : Fin cfg0.N) : Memref sig .tc .vmem S1x14x16x256 .f32 := win0_1.stage (cfg0.slots t 1)
/-- That buffer is a whole one. -/
abbrev hs0_1 (t : Fin cfg0.N) : (ms0_1 t).IsWhole := hstage0_1 ((cfg0.slots t 1).cast nbuf0_1)

set_option maxHeartbeats 1000000 in
noncomputable def kernelRun0_A (c : Dev nD) (i : grid0.Coords) (arg2 : Memref sig .tc .vmem S1x64x128x256 .f32) (harg2 : arg2.IsWhole) (arg3 : Memref sig .tc .vmem S1x14x16x256 .f32) (harg3 : arg3.IsWhole) (hc0 : cond0_0 i) (hc1 : ¬cond0_1 i)
    (x0 : Vec F S1x64x128x256 .f32) :
    { L1 : List (View.Piece (Elt F) S1x14x16x256 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_qbn_stats i arg2 harg2 arg3 harg3) K } := by
  refine ⟨?_, fun E K => ?run⟩
  case run =>
    simp only [cc0_qbn_stats_eq_skeleton]; unfold cc0_qbn_stats_skel
    simp only [k0_part5_eq_skeleton, k0_part1_eq_skeleton]
    unfold owns
    iintro ⟨⟨%f0, %hf0, H0⟩, ⟨%d1, %f1, -, H1⟩, Hk⟩
    obtain rfl := harg2.eq_unread hf0
    sl_exec (disch := first | sl_exact hc0 | sl_exact hc1)
    sl_step
    iapply Hk
    isplitl [H0]
    · iexists _; isplitr; · ipureintro; exact harg2.read_unread _
      iexact H0
    iexists _; iexact H1

set_option maxHeartbeats 1000000 in
noncomputable def kernelRun0_B (c : Dev nD) (i : grid0.Coords) (arg2 : Memref sig .tc .vmem S1x64x128x256 .f32) (harg2 : arg2.IsWhole) (arg3 : Memref sig .tc .vmem S1x14x16x256 .f32) (harg3 : arg3.IsWhole) (hc0 : ¬cond0_0 i) (hc1 : cond0_1 i)
    (x0 : Vec F S1x64x128x256 .f32) (xo1 : Vec F S1x14x16x256 .f32) :
    { L1 : List (View.Piece (Elt F) S1x14x16x256 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_qbn_stats i arg2 harg2 arg3 harg3) K } := by
  refine ⟨?_, fun E K => ?run⟩
  case run =>
    simp only [cc0_qbn_stats_eq_skeleton]; unfold cc0_qbn_stats_skel
    simp only [k0_part5_eq_skeleton, k0_part2_eq_skeleton, k0_part3_eq_skeleton, k0_part4_eq_skeleton]
    unfold owns
    iintro ⟨⟨%f0, %hf0, H0⟩, ⟨%f1, %hf1, H1⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    iexists _; iexact H1

/-- The body writes all of the result block of the statistics call. -/
theorem cover0_A_1 (c : Dev nD) (i : grid0.Coords) (arg2 : Memref sig .tc .vmem S1x64x128x256 .f32) (harg2 : arg2.IsWhole) (arg3 : Memref sig .tc .vmem S1x14x16x256 .f32) (harg3 : arg3.IsWhole) (hc0 : cond0_0 i) (hc1 : ¬cond0_1 i)
    (x0 : Vec F S1x64x128x256 .f32) (y : S1x14x16x256.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x1x16x256.size (by sl_kernel_rfl) y

/-- What the body of the statistics call leaves in its result block. -/
def out0_A_1 (c : Dev nD) (i : grid0.Coords) (arg2 : Memref sig .tc .vmem S1x64x128x256 .f32) (harg2 : arg2.IsWhole) (arg3 : Memref sig .tc .vmem S1x14x16x256 .f32) (harg3 : arg3.IsWhole) (hc0 : cond0_0 i) (hc1 : ¬cond0_1 i)
    (x0 : Vec F S1x64x128x256 .f32) : Vec F S1x14x16x256 .f32 :=
  VO0_1.read (Elt F) (VO0_1.writes (Elt F) VO0_1.junk (kernelRun0_A c i arg2 harg2 arg3 harg3 hc0 hc1 x0).1)

/-- The body writes all of the result block of the statistics call. -/
theorem cover0_B_1 (c : Dev nD) (i : grid0.Coords) (arg2 : Memref sig .tc .vmem S1x64x128x256 .f32) (harg2 : arg2.IsWhole) (arg3 : Memref sig .tc .vmem S1x14x16x256 .f32) (harg3 : arg3.IsWhole) (hc0 : ¬cond0_0 i) (hc1 : cond0_1 i)
    (x0 : Vec F S1x64x128x256 .f32) (xo1 : Vec F S1x14x16x256 .f32) (y : S1x14x16x256.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1x1x16x256.size (by sl_kernel_rfl) y

/-- What the body of the statistics call leaves in its result block. -/
def out0_B_1 (c : Dev nD) (i : grid0.Coords) (arg2 : Memref sig .tc .vmem S1x64x128x256 .f32) (harg2 : arg2.IsWhole) (arg3 : Memref sig .tc .vmem S1x14x16x256 .f32) (harg3 : arg3.IsWhole) (hc0 : ¬cond0_0 i) (hc1 : cond0_1 i)
    (x0 : Vec F S1x64x128x256 .f32) (xo1 : Vec F S1x14x16x256 .f32) : Vec F S1x14x16x256 .f32 :=
  VO0_1.read (Elt F) (VO0_1.writes (Elt F) VO0_1.junk (kernelRun0_B c i arg2 harg2 arg3 harg3 hc0 hc1 x0 xo1).1)

/-- What the statistics call leaves in its result block after each point. -/
def outsAt0 (c : Dev nD) : (n : ℕ) → n < cfg0.N → Vec F S1x14x16x256 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 2 = 0 then
      if h1 : (n + 1) % 2 = 1 then
        False.elim (by have hN : n + 1 < 32 := lt_of_lt_of_eq hn (show cfg0.N = 32 from N_0); omega)
      else
        out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : (n + 1) % 2 = 1 then
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        False.elim (by have hN : n + 1 < 32 := lt_of_lt_of_eq hn (show cfg0.N = 32 from N_0); omega)

/-- What the statistics call leaves at the first half of an image. -/
theorem outsAt0_A (c : Dev nD) (t : Fin cfg0.N) (h0 : t.val % 2 = 0) (h1 : ¬t.val % 2 = 1) :
    outsAt0 V c t.val t.isLt = out0_A_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact rfl
  | succ n => exact (dif_pos h0).trans ((dif_neg h1).trans rfl)

/-- What the statistics call leaves at the second half of an image. -/
theorem outsAt0_B (c : Dev nD) (t : Fin cfg0.N) (h0 : ¬t.val % 2 = 0) (h1 : t.val % 2 = 1) :
    outsAt0 V c t.val t.isLt = out0_B_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The run data of the statistics call: its arrays, and what each block holds after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The arrays of the statistics call are the ones it finds. -/
theorem A_eq0 (c : Dev nD) (w : Fin cfg0.W) : (dat0 V c).A w = V c (Pipeline.arrRef spec0 w) := by
  dsimp only [dat0]

/-- After the body of the statistics call, what operand 0 holds. -/
theorem after0_0 (c : Dev nD) (t : Fin cfg0.N) : (dat0 V c).after 0 t = iblk0 V c 0 t := by dsimp only [dat0]
/-- After the body of the statistics call, what operand 1 holds. -/
theorem after0_1 (c : Dev nD) (t : Fin cfg0.N) : (dat0 V c).after 1 t = (outsAt0 V c t.val t.isLt) := by dsimp only [dat0]

/-- Before the body of the statistics call, operand 0 holds its block. -/
theorem before0_0 (c : Dev nD) (t : Fin cfg0.N) (d) : (dat0 V c).before 0 t d = iblk0 V c 0 t :=
  before0_0_of V (dat0 V c) (A_eq0 V c 0) (after0_0 V c) t d

/-- A point that leaves operand 1 alone leaves it as the previous point did. -/
theorem hcarry0_1 (c : Dev nD) : ∀ (t : Fin cfg0.N) (_ : t.val ≠ 0), cfg0.idle 1 (grid0.coords t) = true → cfg0.fresh 1 t.val = false →
    (dat0 V c).after 1 t = (dat0 V c).after 1 ⟨t.val - 1, by omega⟩ := by
  intro t _ hi _
  have hN : t.val < 32 := lt_of_lt_of_eq t.isLt (show cfg0.N = 32 from N_0)
  rw [after0_1, after0_1]
  by_cases h0 : t.val % 2 = 0
  · by_cases h1 : t.val % 2 = 1
    · exfalso; omega
    · rw [liveAt0_1_A t ((hcond0_0 t).mpr h0) (fun h => h1 ((hcond0_1 t).mp h))] at hi
      exact absurd hi Bool.false_ne_true
  · by_cases h1 : t.val % 2 = 1
    · rw [liveAt0_1_B t (fun h => h0 ((hcond0_0 t).mp h)) ((hcond0_1 t).mpr h1)] at hi
      exact absurd hi Bool.false_ne_true
    · exfalso; omega
/-- At a later point of an image, operand 1 of the statistics call holds what the previous point left. -/
theorem before0_1_B (c : Dev nD) (t : Fin cfg0.N) (h0 : ¬t.val % 2 = 0) (h1 : t.val % 2 = 1) (d) :
    (dat0 V c).before 1 t d = (outsAt0 V c (t.val - 1) (Nat.lt_of_le_of_lt (Nat.sub_le _ _) t.isLt)) := by
  rw [Dat.before_out_traj _ 1 rfl (fun _ _ => rfl) (hcarry0_1 V c) t.val t rfl d,
    if_neg (by rw [notFresh0_1_B t (fun h => h0 ((hcond0_0 t).mp h)) ((hcond0_1 t).mpr h1)]; exact Bool.false_ne_true)]
  dsimp only [dat0]

/-- What the body of the statistics call is given at a point. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- What the body of the statistics call gives back at a point. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body of the statistics call, run on what it is given, gives back what it owes. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have hN : t.val < 32 := lt_of_lt_of_eq t.isLt (show cfg0.N = 32 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_A t ((hcond0_0 t).mpr h0) (fun h => h1 ((hcond0_1 t).mp h))], after0_1]
      rw [outsAt0_A V c t h0 h1]
      unfold out0_A_1
      iintro ⟨HΦ, Ho, ⟨%d0, H0⟩, ⟨%d1, H1⟩⟩
      iapply ((kernelRun0_A c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
  · by_cases h1 : t.val % 2 = 1
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
      rw [outsAt0_B V c t h0 h1]
      simp only [before0_1_B V c t h0 h1]
      unfold out0_B_1
      iintro ⟨HΦ, Ho, ⟨%d0, H0⟩, ⟨%d1, H1⟩⟩
      iapply ((kernelRun0_B c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)
    · exfalso; omega

/-- The body the statistics call names at a point. -/
theorem defs₀_row0 (t : Fin cfg0.N) :
    defs₀ (F := F) .tc cfg0.body (cfg0.bodyArgs t (cfg0.slots t)) = bodyAt0 t := by
  unfold defs₀; rw [Defs.onTc_tc]

/-- The body of the statistics call does what the pipeline asks at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.Frame1.lean ====
/- The parameter call: its body run once, what it leaves, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block operand `w` of the parameters call reads at point `t`, from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 of the parameters call holds its block before the body, for any run data whose array is the one the call finds and whose body leaves that block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Operand 1 of the parameters call holds its block before the body, for any run data whose array is the one the call finds and whose body leaves that block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Operand 2 of the parameters call holds its block before the body, for any run data whose array is the one the call finds and whose body leaves that block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Operand 3 of the parameters call holds its block before the body, for any run data whose array is the one the call finds and whose body leaves that block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Operand 4 of the parameters call holds its block before the body, for any run data whose array is the one the call finds and whose body leaves that block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Operand 5 of the parameters call holds its block before the body, for any run data whose array is the one the call finds and whose body leaves that block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Operand 6 of the parameters call holds its block before the body, for any run data whose array is the one the call finds and whose body leaves that block. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Operand 7 of the parameters call holds its block before the body, for any run data whose array is the one the call finds and whose body leaves that block. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Operand 8 of the parameters call holds its block before the body, for any run data whose array is the one the call finds and whose body leaves that block. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Operand 9 of the parameters call holds its block before the body, for any run data whose array is the one the call finds and whose body leaves that block. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Operand 10 of the parameters call holds its block before the body, for any run data whose array is the one the call finds and whose body leaves that block. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Operand 11 of the parameters call holds its block before the body, for any run data whose array is the one the call finds and whose body leaves that block. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffer of operand 12 of the parameters call. -/
abbrev VO1_12 : View sig .tc .vmem S20x16 .f32 := (Memref.whole cc1_stg12_0 : Memref sig .tc .vmem S20x16 .f32).view
/-- The staging buffer of operand 0 of the parameters call at point `t`. -/
abbrev ms1_0 (t : Fin cfg1.N) : Memref sig .tc .vmem S16x14x16x256 .f32 := win1_0.stage (cfg1.slots t 0)
/-- That buffer is a whole one. -/
abbrev hs1_0 (t : Fin cfg1.N) : (ms1_0 t).IsWhole := hstage1_0 0
/-- The staging buffer of operand 1 of the parameters call at point `t`. -/
abbrev ms1_1 (t : Fin cfg1.N) : Memref sig .tc .vmem S16 .f32 := win1_1.stage (cfg1.slots t 1)
/-- That buffer is a whole one. -/
abbrev hs1_1 (t : Fin cfg1.N) : (ms1_1 t).IsWhole := hstage1_1 0
/-- The staging buffer of operand 2 of the parameters call at point `t`. -/
abbrev ms1_2 (t : Fin cfg1.N) : Memref sig .tc .vmem S16 .f32 := win1_2.stage (cfg1.slots t 2)
/-- That buffer is a whole one. -/
abbrev hs1_2 (t : Fin cfg1.N) : (ms1_2 t).IsWhole := hstage1_2 0
/-- The staging buffer of operand 3 of the parameters call at point `t`. -/
abbrev ms1_3 (t : Fin cfg1.N) : Memref sig .tc .vmem S16 .f32 := win1_3.stage (cfg1.slots t 3)
/-- That buffer is a whole one. -/
abbrev hs1_3 (t : Fin cfg1.N) : (ms1_3 t).IsWhole := hstage1_3 0
/-- The staging buffer of operand 4 of the parameters call at point `t`. -/
abbrev ms1_4 (t : Fin cfg1.N) : Memref sig .tc .vmem S16 .f32 := win1_4.stage (cfg1.slots t 4)
/-- That buffer is a whole one. -/
abbrev hs1_4 (t : Fin cfg1.N) : (ms1_4 t).IsWhole := hstage1_4 0
/-- The staging buffer of operand 5 of the parameters call at point `t`. -/
abbrev ms1_5 (t : Fin cfg1.N) : Memref sig .tc .vmem S16 .f32 := win1_5.stage (cfg1.slots t 5)
/-- That buffer is a whole one. -/
abbrev hs1_5 (t : Fin cfg1.N) : (ms1_5 t).IsWhole := hstage1_5 0
/-- The staging buffer of operand 6 of the parameters call at point `t`. -/
abbrev ms1_6 (t : Fin cfg1.N) : Memref sig .tc .vmem S16 .f32 := win1_6.stage (cfg1.slots t 6)
/-- That buffer is a whole one. -/
abbrev hs1_6 (t : Fin cfg1.N) : (ms1_6 t).IsWhole := hstage1_6 0
/-- The staging buffer of operand 7 of the parameters call at point `t`. -/
abbrev ms1_7 (t : Fin cfg1.N) : Memref sig .tc .vmem S16 .f32 := win1_7.stage (cfg1.slots t 7)
/-- That buffer is a whole one. -/
abbrev hs1_7 (t : Fin cfg1.N) : (ms1_7 t).IsWhole := hstage1_7 0
/-- The staging buffer of operand 8 of the parameters call at point `t`. -/
abbrev ms1_8 (t : Fin cfg1.N) : Memref sig .tc .vmem S16 .f32 := win1_8.stage (cfg1.slots t 8)
/-- That buffer is a whole one. -/
abbrev hs1_8 (t : Fin cfg1.N) : (ms1_8 t).IsWhole := hstage1_8 0
/-- The staging buffer of operand 9 of the parameters call at point `t`. -/
abbrev ms1_9 (t : Fin cfg1.N) : Memref sig .tc .vmem S16 .f32 := win1_9.stage (cfg1.slots t 9)
/-- That buffer is a whole one. -/
abbrev hs1_9 (t : Fin cfg1.N) : (ms1_9 t).IsWhole := hstage1_9 0
/-- The staging buffer of operand 10 of the parameters call at point `t`. -/
abbrev ms1_10 (t : Fin cfg1.N) : Memref sig .tc .vmem S16 .f32 := win1_10.stage (cfg1.slots t 10)
/-- That buffer is a whole one. -/
abbrev hs1_10 (t : Fin cfg1.N) : (ms1_10 t).IsWhole := hstage1_10 0
/-- The staging buffer of operand 11 of the parameters call at point `t`. -/
abbrev ms1_11 (t : Fin cfg1.N) : Memref sig .tc .vmem S64 .f32 := win1_11.stage (cfg1.slots t 11)
/-- That buffer is a whole one. -/
abbrev hs1_11 (t : Fin cfg1.N) : (ms1_11 t).IsWhole := hstage1_11 0
/-- The staging buffer of operand 12 of the parameters call at point `t`. -/
abbrev ms1_12 (t : Fin cfg1.N) : Memref sig .tc .vmem S20x16 .f32 := win1_12.stage (cfg1.slots t 12)
/-- That buffer is a whole one. -/
abbrev hs1_12 (t : Fin cfg1.N) : (ms1_12 t).IsWhole := hstage1_12 0

set_option maxHeartbeats 1000000 in
noncomputable def kernelRun1_A (c : Dev nD) (arg0 : Memref sig .tc .vmem S16x14x16x256 .f32) (harg0 : arg0.IsWhole) (arg1 : Memref sig .tc .vmem S16 .f32) (harg1 : arg1.IsWhole) (arg2 : Memref sig .tc .vmem S16 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S64 .f32) (harg11 : arg11.IsWhole) (arg12 : Memref sig .tc .vmem S20x16 .f32) (harg12 : arg12.IsWhole)
    (x0 : Vec F S16x14x16x256 .f32) (x1 : Vec F S16 .f32) (x2 : Vec F S16 .f32) (x3 : Vec F S16 .f32) (x4 : Vec F S16 .f32) (x5 : Vec F S16 .f32) (x6 : Vec F S16 .f32) (x7 : Vec F S16 .f32) (x8 : Vec F S16 .f32) (x9 : Vec F S16 .f32) (x10 : Vec F S16 .f32) (x11 : Vec F S64 .f32) :
    { L12 : List (View.Piece (Elt F) S20x16 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12)) -∗ K ⟨⟩))
          ⊢ wp frame (wpE (defs₀ (F := F)) Variants.none c none) E (cc1_qbn_prep arg0 harg0 arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_qbn_prep_eq_skeleton]; unfold cc1_qbn_prep_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; iexact H12

/-- The body writes all of the result block of the parameters call. -/
theorem cover1_A_12 (c : Dev nD) (arg0 : Memref sig .tc .vmem S16x14x16x256 .f32) (harg0 : arg0.IsWhole) (arg1 : Memref sig .tc .vmem S16 .f32) (harg1 : arg1.IsWhole) (arg2 : Memref sig .tc .vmem S16 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S64 .f32) (harg11 : arg11.IsWhole) (arg12 : Memref sig .tc .vmem S20x16 .f32) (harg12 : arg12.IsWhole)
    (x0 : Vec F S16x14x16x256 .f32) (x1 : Vec F S16 .f32) (x2 : Vec F S16 .f32) (x3 : Vec F S16 .f32) (x4 : Vec F S16 .f32) (x5 : Vec F S16 .f32) (x6 : Vec F S16 .f32) (x7 : Vec F S16 .f32) (x8 : Vec F S16 .f32) (x9 : Vec F S16 .f32) (x10 : Vec F S16 .f32) (x11 : Vec F S64 .f32) (y : S20x16.Idx) :
    ∃ pc ∈ (kernelRun1_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11).1, y ∈ pc.1.set :=
  View.cover_of_tiledL (kernelRun1_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11).1 S1x16.size (by sl_kernel_rfl) y

/-- What the body of the parameters call leaves in its result block. -/
def out1_A_12 (c : Dev nD) (arg0 : Memref sig .tc .vmem S16x14x16x256 .f32) (harg0 : arg0.IsWhole) (arg1 : Memref sig .tc .vmem S16 .f32) (harg1 : arg1.IsWhole) (arg2 : Memref sig .tc .vmem S16 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S64 .f32) (harg11 : arg11.IsWhole) (arg12 : Memref sig .tc .vmem S20x16 .f32) (harg12 : arg12.IsWhole)
    (x0 : Vec F S16x14x16x256 .f32) (x1 : Vec F S16 .f32) (x2 : Vec F S16 .f32) (x3 : Vec F S16 .f32) (x4 : Vec F S16 .f32) (x5 : Vec F S16 .f32) (x6 : Vec F S16 .f32) (x7 : Vec F S16 .f32) (x8 : Vec F S16 .f32) (x9 : Vec F S16 .f32) (x10 : Vec F S16 .f32) (x11 : Vec F S64 .f32) : Vec F S20x16 .f32 :=
  VO1_12.read (Elt F) (VO1_12.writes (Elt F) VO1_12.junk (kernelRun1_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11).1)

/-- What the parameters call leaves in its result block after each point. -/
def outsAt1 (c : Dev nD) (t : Fin cfg1.N) : Vec F S20x16 .f32 :=
  out1_A_12 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-- The run data of the parameters call: its arrays, and what each block holds after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t)
  Φ _ := Pipeline.ΦA spec1 c
  q _ := fullShare
  owed _ := 0

/-- The arrays of the parameters call are the ones it finds. -/
theorem A_eq1 (c : Dev nD) (w : Fin cfg1.W) : (dat1 V c).A w = V c (Pipeline.arrRef spec1 w) := by
  dsimp only [dat1]

/-- After the body of the parameters call, what operand 0 holds. -/
theorem after1_0 (c : Dev nD) (t : Fin cfg1.N) : (dat1 V c).after 0 t = iblk1 V c 0 t := by dsimp only [dat1]
/-- After the body of the parameters call, what operand 1 holds. -/
theorem after1_1 (c : Dev nD) (t : Fin cfg1.N) : (dat1 V c).after 1 t = iblk1 V c 1 t := by dsimp only [dat1]
/-- After the body of the parameters call, what operand 2 holds. -/
theorem after1_2 (c : Dev nD) (t : Fin cfg1.N) : (dat1 V c).after 2 t = iblk1 V c 2 t := by dsimp only [dat1]
/-- After the body of the parameters call, what operand 3 holds. -/
theorem after1_3 (c : Dev nD) (t : Fin cfg1.N) : (dat1 V c).after 3 t = iblk1 V c 3 t := by dsimp only [dat1]
/-- After the body of the parameters call, what operand 4 holds. -/
theorem after1_4 (c : Dev nD) (t : Fin cfg1.N) : (dat1 V c).after 4 t = iblk1 V c 4 t := by dsimp only [dat1]
/-- After the body of the parameters call, what operand 5 holds. -/
theorem after1_5 (c : Dev nD) (t : Fin cfg1.N) : (dat1 V c).after 5 t = iblk1 V c 5 t := by dsimp only [dat1]
/-- After the body of the parameters call, what operand 6 holds. -/
theorem after1_6 (c : Dev nD) (t : Fin cfg1.N) : (dat1 V c).after 6 t = iblk1 V c 6 t := by dsimp only [dat1]
/-- After the body of the parameters call, what operand 7 holds. -/
theorem after1_7 (c : Dev nD) (t : Fin cfg1.N) : (dat1 V c).after 7 t = iblk1 V c 7 t := by dsimp only [dat1]
/-- After the body of the parameters call, what operand 8 holds. -/
theorem after1_8 (c : Dev nD) (t : Fin cfg1.N) : (dat1 V c).after 8 t = iblk1 V c 8 t := by dsimp only [dat1]
/-- After the body of the parameters call, what operand 9 holds. -/
theorem after1_9 (c : Dev nD) (t : Fin cfg1.N) : (dat1 V c).after 9 t = iblk1 V c 9 t := by dsimp only [dat1]
/-- After the body of the parameters call, what operand 10 holds. -/
theorem after1_10 (c : Dev nD) (t : Fin cfg1.N) : (dat1 V c).after 10 t = iblk1 V c 10 t := by dsimp only [dat1]
/-- After the body of the parameters call, what operand 11 holds. -/
theorem after1_11 (c : Dev nD) (t : Fin cfg1.N) : (dat1 V c).after 11 t = iblk1 V c 11 t := by dsimp only [dat1]
/-- After the body of the parameters call, what operand 12 holds. -/
theorem after1_12 (c : Dev nD) (t : Fin cfg1.N) : (dat1 V c).after 12 t = (outsAt1 V c t) := by dsimp only [dat1]

/-- Before the body of the parameters call, operand 0 holds its block. -/
theorem before1_0 (c : Dev nD) (t : Fin cfg1.N) (d) : (dat1 V c).before 0 t d = iblk1 V c 0 t :=
  before1_0_of V (dat1 V c) (A_eq1 V c 0) (after1_0 V c) t d
/-- Before the body of the parameters call, operand 1 holds its block. -/
theorem before1_1 (c : Dev nD) (t : Fin cfg1.N) (d) : (dat1 V c).before 1 t d = iblk1 V c 1 t :=
  before1_1_of V (dat1 V c) (A_eq1 V c 1) (after1_1 V c) t d
/-- Before the body of the parameters call, operand 2 holds its block. -/
theorem before1_2 (c : Dev nD) (t : Fin cfg1.N) (d) : (dat1 V c).before 2 t d = iblk1 V c 2 t :=
  before1_2_of V (dat1 V c) (A_eq1 V c 2) (after1_2 V c) t d
/-- Before the body of the parameters call, operand 3 holds its block. -/
theorem before1_3 (c : Dev nD) (t : Fin cfg1.N) (d) : (dat1 V c).before 3 t d = iblk1 V c 3 t :=
  before1_3_of V (dat1 V c) (A_eq1 V c 3) (after1_3 V c) t d
/-- Before the body of the parameters call, operand 4 holds its block. -/
theorem before1_4 (c : Dev nD) (t : Fin cfg1.N) (d) : (dat1 V c).before 4 t d = iblk1 V c 4 t :=
  before1_4_of V (dat1 V c) (A_eq1 V c 4) (after1_4 V c) t d
/-- Before the body of the parameters call, operand 5 holds its block. -/
theorem before1_5 (c : Dev nD) (t : Fin cfg1.N) (d) : (dat1 V c).before 5 t d = iblk1 V c 5 t :=
  before1_5_of V (dat1 V c) (A_eq1 V c 5) (after1_5 V c) t d
/-- Before the body of the parameters call, operand 6 holds its block. -/
theorem before1_6 (c : Dev nD) (t : Fin cfg1.N) (d) : (dat1 V c).before 6 t d = iblk1 V c 6 t :=
  before1_6_of V (dat1 V c) (A_eq1 V c 6) (after1_6 V c) t d
/-- Before the body of the parameters call, operand 7 holds its block. -/
theorem before1_7 (c : Dev nD) (t : Fin cfg1.N) (d) : (dat1 V c).before 7 t d = iblk1 V c 7 t :=
  before1_7_of V (dat1 V c) (A_eq1 V c 7) (after1_7 V c) t d
/-- Before the body of the parameters call, operand 8 holds its block. -/
theorem before1_8 (c : Dev nD) (t : Fin cfg1.N) (d) : (dat1 V c).before 8 t d = iblk1 V c 8 t :=
  before1_8_of V (dat1 V c) (A_eq1 V c 8) (after1_8 V c) t d
/-- Before the body of the parameters call, operand 9 holds its block. -/
theorem before1_9 (c : Dev nD) (t : Fin cfg1.N) (d) : (dat1 V c).before 9 t d = iblk1 V c 9 t :=
  before1_9_of V (dat1 V c) (A_eq1 V c 9) (after1_9 V c) t d
/-- Before the body of the parameters call, operand 10 holds its block. -/
theorem before1_10 (c : Dev nD) (t : Fin cfg1.N) (d) : (dat1 V c).before 10 t d = iblk1 V c 10 t :=
  before1_10_of V (dat1 V c) (A_eq1 V c 10) (after1_10 V c) t d
/-- Before the body of the parameters call, operand 11 holds its block. -/
theorem before1_11 (c : Dev nD) (t : Fin cfg1.N) (d) : (dat1 V c).before 11 t d = iblk1 V c 11 t :=
  before1_11_of V (dat1 V c) (A_eq1 V c 11) (after1_11 V c) t d

/-- What the body of the parameters call is given at a point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- What the body of the parameters call gives back at a point. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1200000 in
/-- The body of the parameters call, run on what it is given, gives back what it owes. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  unfold outsAt1
  unfold out1_A_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover1_A_12 c _ _ _ _ _ _ _ _ _ _ _ _ _ _ _ _ _ _ _ _ _ _ _ _ _ _ _ _ _ _ _ _ _ _ _ _ _ _)

/-- The body the parameters call names at a point. -/
theorem defs₀_row1 (t : Fin cfg1.N) :
    defs₀ (F := F) .tc cfg1.body (cfg1.bodyArgs t (cfg1.slots t)) = bodyAt1 t := by
  unfold defs₀; rw [Defs.onTc_tc]

/-- The body of the parameters call does what the pipeline asks at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.Frame2.lean ====
/- The application call: its body run once at any grid point, what it leaves, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block operand `w` of the application call reads at point `t`, from its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand 0 of the application call holds its block before the body, for any run data whose array is the one the call finds and whose body leaves that block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Operand 1 of the application call holds its block before the body, for any run data whose array is the one the call finds and whose body leaves that block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole staging buffer of operand 2 of the application call. -/
abbrev VO2_2 : View sig .tc .vmem S1x64x128x256 .f32 := (Memref.whole cc2_stg2_0 : Memref sig .tc .vmem S1x64x128x256 .f32).view
/-- The staging buffer of operand 0 of the application call at point `t`. -/
abbrev ms2_0 (t : Fin cfg2.N) : Memref sig .tc .smem S20x16 .f32 := win2_0.stage (cfg2.slots t 0)
/-- That buffer is a whole one. -/
abbrev hs2_0 (t : Fin cfg2.N) : (ms2_0 t).IsWhole := hstage2_0 ((cfg2.slots t 0).cast nbuf2_0)
/-- The staging buffer of operand 1 of the application call at point `t`. -/
abbrev ms2_1 (t : Fin cfg2.N) : Memref sig .tc .vmem S1x64x128x256 .f32 := win2_1.stage (cfg2.slots t 1)
/-- That buffer is a whole one. -/
abbrev hs2_1 (t : Fin cfg2.N) : (ms2_1 t).IsWhole := hstage2_1 ((cfg2.slots t 1).cast nbuf2_1)
/-- The staging buffer of operand 2 of the application call at point `t`. -/
abbrev ms2_2 (t : Fin cfg2.N) : Memref sig .tc .vmem S1x64x128x256 .f32 := win2_2.stage (cfg2.slots t 2)
/-- That buffer is a whole one. -/
abbrev hs2_2 (t : Fin cfg2.N) : (ms2_2 t).IsWhole := hstage2_2 ((cfg2.slots t 2).cast nbuf2_2)

set_option maxHeartbeats 2676000 in
noncomputable def kernelRun2_A (c : Dev nD) (i : grid2.Coords) (arg2 : Memref sig .tc .smem S20x16 .f32) (harg2 : arg2.IsWhole) (arg3 : Memref sig .tc .vmem S1x64x128x256 .f32) (harg3 : arg3.IsWhole) (arg4 : Memref sig .tc .vmem S1x64x128x256 .f32) (harg4 : arg4.IsWhole)
    (x0 : Vec F S20x16 .f32) (x1 : Vec F S1x64x128x256 .f32) :
    { L2 : List (View.Piece (Elt F) S1x64x128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2_qbn_apply i arg2 harg2 arg3 harg3 arg4 harg4) K } := by
  refine ⟨?_, fun E K => ?run⟩
  case run =>
    simp only [cc2_qbn_apply_eq_skeleton]; unfold cc2_qbn_apply_skel
    simp only [k2_part45_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The body writes all of the result block of the application call. -/
theorem cover2_A_2 (c : Dev nD) (i : grid2.Coords) (arg2 : Memref sig .tc .smem S20x16 .f32) (harg2 : arg2.IsWhole) (arg3 : Memref sig .tc .vmem S1x64x128x256 .f32) (harg3 : arg3.IsWhole) (arg4 : Memref sig .tc .vmem S1x64x128x256 .f32) (harg4 : arg4.IsWhole)
    (x0 : Vec F S20x16 .f32) (x1 : Vec F S1x64x128x256 .f32) (y : S1x64x128x256.Idx) :
    ∃ pc ∈ (kernelRun2_A c i arg2 harg2 arg3 harg3 arg4 harg4 x0 x1).1, y ∈ pc.1.set :=
  View.cover_of_tiledL (kernelRun2_A c i arg2 harg2 arg3 harg3 arg4 harg4 x0 x1).1 S1x1x128x256.size (by sl_kernel_rfl) y

/-- What the body of the application call leaves in its result block. -/
def out2_A_2 (c : Dev nD) (i : grid2.Coords) (arg2 : Memref sig .tc .smem S20x16 .f32) (harg2 : arg2.IsWhole) (arg3 : Memref sig .tc .vmem S1x64x128x256 .f32) (harg3 : arg3.IsWhole) (arg4 : Memref sig .tc .vmem S1x64x128x256 .f32) (harg4 : arg4.IsWhole)
    (x0 : Vec F S20x16 .f32) (x1 : Vec F S1x64x128x256 .f32) : Vec F S1x64x128x256 .f32 :=
  VO2_2.read (Elt F) (VO2_2.writes (Elt F) VO2_2.junk (kernelRun2_A c i arg2 harg2 arg3 harg3 arg4 harg4 x0 x1).1)

/-- What the application call leaves in its result block after each point. -/
def outsAt2 (c : Dev nD) (t : Fin cfg2.N) : Vec F S1x64x128x256 .f32 :=
  out2_A_2 c (grid2.coords t) (ms2_0 t) (hs2_0 t) (ms2_1 t) (hs2_1 t) (ms2_2 t) (hs2_2 t) (iblk2 V c 0 t) (iblk2 V c 1 t)

/-- The run data of the application call: its arrays, and what each block holds after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t)
  Φ _ := Pipeline.ΦA spec2 c
  q _ := fullShare
  owed _ := 0

/-- The arrays of the application call are the ones it finds. -/
theorem A_eq2 (c : Dev nD) (w : Fin cfg2.W) : (dat2 V c).A w = V c (Pipeline.arrRef spec2 w) := by
  dsimp only [dat2]

/-- After the body of the application call, what operand 0 holds. -/
theorem after2_0 (c : Dev nD) (t : Fin cfg2.N) : (dat2 V c).after 0 t = iblk2 V c 0 t := by dsimp only [dat2]
/-- After the body of the application call, what operand 1 holds. -/
theorem after2_1 (c : Dev nD) (t : Fin cfg2.N) : (dat2 V c).after 1 t = iblk2 V c 1 t := by dsimp only [dat2]
/-- After the body of the application call, what operand 2 holds. -/
theorem after2_2 (c : Dev nD) (t : Fin cfg2.N) : (dat2 V c).after 2 t = (outsAt2 V c t) := by dsimp only [dat2]

/-- Before the body of the application call, operand 0 holds its block. -/
theorem before2_0 (c : Dev nD) (t : Fin cfg2.N) (d) : (dat2 V c).before 0 t d = iblk2 V c 0 t :=
  before2_0_of V (dat2 V c) (A_eq2 V c 0) (after2_0 V c) t d
/-- Before the body of the application call, operand 1 holds its block. -/
theorem before2_1 (c : Dev nD) (t : Fin cfg2.N) (d) : (dat2 V c).before 1 t d = iblk2 V c 1 t :=
  before2_1_of V (dat2 V c) (A_eq2 V c 1) (after2_1 V c) t d

/-- What the body of the application call is given at a point. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- What the body of the application call gives back at a point. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body of the application call, run on what it is given, gives back what it owes. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold outsAt2
  unfold out2_A_2
  iintro ⟨HΦ, Ho, ⟨%d0, H0⟩, ⟨%d1, H1⟩, ⟨%d2, H2⟩⟩
  iapply ((kernelRun2_A c (grid2.coords t) _ _ _ _ _ _ (iblk2 V c 0 t) (iblk2 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover2_A_2 c _ _ _ _ _ _ _ _ _)

/-- The body the application call names at a point. -/
theorem defs₀_row2 (t : Fin cfg2.N) :
    defs₀ (F := F) .tc cfg2.body (cfg2.bodyArgs t (cfg2.slots t)) = bodyAt2 t := by
  unfold defs₀; rw [Defs.onTc_tc]

/-- The body of the application call does what the pipeline asks at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.Run.lean ====
/- The three calls in order from the launch to the return. -/
module

public import proofs.«01_k».proof.Proof.Frame0
public import proofs.«01_k».proof.Proof.Frame1
public import proofs.«01_k».proof.Proof.Frame2
public import Idealize.ShloMosaic.Lib.Pipeline.RegionsLoop
public import Idealize.ShloMosaic.Lib.Pipeline.FrameSuffix

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The twelve arguments. -/
abbrev argRefs : List (Ref sig .tc) := [main_arg0, main_arg1, main_arg2, main_arg3, main_arg4, main_arg5, main_arg6, main_arg7, main_arg8, main_arg9, main_arg10, main_arg11]

/-- What the buffers hold at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- What the buffers hold at launch, by reference. -/
abbrev V0 : (c : Dev nD) → (b : Ref sig .tc) → Buf (Elt F) ((c : Thread nD τ).loc b) := fun c b => W0 m ρ c b
/-- What the buffers hold after one of the calls. -/
def W1 (c : Dev nD) : Valuation τ sig (Elt F) :=
  Pipeline.withArrays spec0 c (W0 m ρ c) fun w => (dat0 (V0 m ρ) c).arrAt w cfg0.N
/-- After one of the calls, the arrays of the last of these hold what it left. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- A call leaves alone every buffer that is none of its arrays. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A call leaves alone every buffer that is none of its results. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- No argument is a result of the statistics call. -/
theorem argsIn0 : ∀ a ∈ argRefs, ∀ w : Fin cfg0.W, Pipeline.arrRef spec0 w = a → (cfg0.win w).isOut = false :=
  ListAll.forall_mem_of_all_decide (by decide +kernel)
/-- After one of the calls the arguments are as launched. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- What the buffers hold after one of the calls, by reference. -/
abbrev V1 : (c : Dev nD) → (b : Ref sig .tc) → Buf (Elt F) ((c : Thread nD τ).loc b) := fun c b => W1 m ρ c b
/-- The arrays of the statistics call end as recorded. -/
theorem hF0 (c : Dev nD) (w : Fin cfg0.W) : (dat0 (V0 m ρ) c).arrAt w cfg0.N = V1 m ρ c (Pipeline.arrRef spec0 w) :=
  (W1_arr m ρ c w).symm
/-- The buffers outside the statistics call are as before it. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- What the buffers hold after two of the calls. -/
def W2 (c : Dev nD) : Valuation τ sig (Elt F) :=
  Pipeline.withArrays spec1 c (W1 m ρ c) fun w => (dat1 (V1 m ρ) c).arrAt w cfg1.N
/-- After two of the calls, the arrays of the last of these hold what it left. -/
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
/-- A call leaves alone every buffer that is none of its arrays. -/
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A call leaves alone every buffer that is none of its results. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- No argument is a result of the parameters call. -/
theorem argsIn1 : ∀ a ∈ argRefs, ∀ w : Fin cfg1.W, Pipeline.arrRef spec1 w = a → (cfg1.win w).isOut = false :=
  ListAll.forall_mem_of_all_decide (by decide +kernel)
/-- After two of the calls the arguments are as launched. -/
theorem W2_args (c : Dev nD) : ∀ a ∈ argRefs, W2 m ρ c (Proc.devRef .tc a) = m ((c : Thread nD τ).loc a) :=
  fun a ha => (W2_of m ρ c a (argsIn1 a ha)).trans (W1_args m ρ c a ha)
/-- What the buffers hold after two of the calls, by reference. -/
abbrev V2 : (c : Dev nD) → (b : Ref sig .tc) → Buf (Elt F) ((c : Thread nD τ).loc b) := fun c b => W2 m ρ c b
/-- The arrays of the parameters call end as recorded. -/
theorem hF1 (c : Dev nD) (w : Fin cfg1.W) : (dat1 (V1 m ρ) c).arrAt w cfg1.N = V2 m ρ c (Pipeline.arrRef spec1 w) :=
  (W2_arr m ρ c w).symm
/-- The buffers outside the parameters call are as before it. -/
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- What the buffers hold after all three of the calls. -/
def W3 (c : Dev nD) : Valuation τ sig (Elt F) :=
  Pipeline.withArrays spec2 c (W2 m ρ c) fun w => (dat2 (V2 m ρ) c).arrAt w cfg2.N
/-- After all three of the calls, the arrays of the last of these hold what it left. -/
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
/-- A call leaves alone every buffer that is none of its arrays. -/
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A call leaves alone every buffer that is none of its results. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- No argument is a result of the application call. -/
theorem argsIn2 : ∀ a ∈ argRefs, ∀ w : Fin cfg2.W, Pipeline.arrRef spec2 w = a → (cfg2.win w).isOut = false :=
  ListAll.forall_mem_of_all_decide (by decide +kernel)
/-- After all three of the calls the arguments are as launched. -/
theorem W3_args (c : Dev nD) : ∀ a ∈ argRefs, W3 m ρ c (Proc.devRef .tc a) = m ((c : Thread nD τ).loc a) :=
  fun a ha => (W3_of m ρ c a (argsIn2 a ha)).trans (W2_args m ρ c a ha)
/-- What the buffers hold after all three of the calls, by reference. -/
abbrev V3 : (c : Dev nD) → (b : Ref sig .tc) → Buf (Elt F) ((c : Thread nD τ).loc b) := fun c b => W3 m ρ c b
/-- The arrays of the application call end as recorded. -/
theorem hF2 (c : Dev nD) (w : Fin cfg2.W) : (dat2 (V2 m ρ) c).arrAt w cfg2.N = V3 m ρ c (Pipeline.arrRef spec2 w) :=
  (W3_arr m ρ c w).symm
/-- The buffers outside the application call are as before it. -/
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- At the end this argument is as launched. -/
theorem W3_main_arg0 (c : Dev nD) : W3 m ρ c (Proc.devRef .tc main_arg0) = m ((c : Thread nD τ).loc main_arg0) :=
  W3_args m ρ c main_arg0 (by decide)
/-- At the end this argument is as launched. -/
theorem W3_main_arg1 (c : Dev nD) : W3 m ρ c (Proc.devRef .tc main_arg1) = m ((c : Thread nD τ).loc main_arg1) :=
  W3_args m ρ c main_arg1 (by decide)
/-- At the end this argument is as launched. -/
theorem W3_main_arg2 (c : Dev nD) : W3 m ρ c (Proc.devRef .tc main_arg2) = m ((c : Thread nD τ).loc main_arg2) :=
  W3_args m ρ c main_arg2 (by decide)
/-- At the end this argument is as launched. -/
theorem W3_main_arg3 (c : Dev nD) : W3 m ρ c (Proc.devRef .tc main_arg3) = m ((c : Thread nD τ).loc main_arg3) :=
  W3_args m ρ c main_arg3 (by decide)
/-- At the end this argument is as launched. -/
theorem W3_main_arg4 (c : Dev nD) : W3 m ρ c (Proc.devRef .tc main_arg4) = m ((c : Thread nD τ).loc main_arg4) :=
  W3_args m ρ c main_arg4 (by decide)
/-- At the end this argument is as launched. -/
theorem W3_main_arg5 (c : Dev nD) : W3 m ρ c (Proc.devRef .tc main_arg5) = m ((c : Thread nD τ).loc main_arg5) :=
  W3_args m ρ c main_arg5 (by decide)
/-- At the end this argument is as launched. -/
theorem W3_main_arg6 (c : Dev nD) : W3 m ρ c (Proc.devRef .tc main_arg6) = m ((c : Thread nD τ).loc main_arg6) :=
  W3_args m ρ c main_arg6 (by decide)
/-- At the end this argument is as launched. -/
theorem W3_main_arg7 (c : Dev nD) : W3 m ρ c (Proc.devRef .tc main_arg7) = m ((c : Thread nD τ).loc main_arg7) :=
  W3_args m ρ c main_arg7 (by decide)
/-- At the end this argument is as launched. -/
theorem W3_main_arg8 (c : Dev nD) : W3 m ρ c (Proc.devRef .tc main_arg8) = m ((c : Thread nD τ).loc main_arg8) :=
  W3_args m ρ c main_arg8 (by decide)
/-- At the end this argument is as launched. -/
theorem W3_main_arg9 (c : Dev nD) : W3 m ρ c (Proc.devRef .tc main_arg9) = m ((c : Thread nD τ).loc main_arg9) :=
  W3_args m ρ c main_arg9 (by decide)
/-- At the end this argument is as launched. -/
theorem W3_main_arg10 (c : Dev nD) : W3 m ρ c (Proc.devRef .tc main_arg10) = m ((c : Thread nD τ).loc main_arg10) :=
  W3_args m ρ c main_arg10 (by decide)
/-- At the end this argument is as launched. -/
theorem W3_main_arg11 (c : Dev nD) : W3 m ρ c (Proc.devRef .tc main_arg11) = m ((c : Thread nD τ).loc main_arg11) :=
  W3_args m ρ c main_arg11 (by decide)

/-- Each call is admissible. -/
abbrev adm : (p : Fin 3) → (pcfgs (F := F) p).Adm := fun p => (cfgs p).toPCfg_adm
/-- The run data of the three calls. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
/-- The bodies have no loops that need a variant. -/
abbrev 𝒱₀ : Variants := Variants.none
/-- No semaphore is ranked. -/
abbrev L : GSem nD τ sig → Finset Unit := fun _ => ∅
/-- Every level is zero. -/
abbrev lv : GSem nD τ sig → Unit → ℕ := fun _ _ => 0
/-- What rides along from call to call: the random register, and nothing owed. -/
abbrev R (c : Dev nD) : sProp 𝕄 := iprop((∃ r, prngReg c r) ∗ ∃ W, owes (c : Thread nD τ) (0 : CellTallies nD τ sig Unit) W)
/-- A stretch of host operations, as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of no scope is among those carried along. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The statistics call as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The parameters call as a segment of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The application call as a segment of the program. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its segments. -/
abbrev segs : List (Pipeline.Seg (pcfgs (F := F)) adm (pdats m ρ) () defs₀ 𝒱₀ L lv) :=
  [ .region (reg0 m ρ),
    .region (reg1 m ρ),
    .region (reg2 m ρ) ]
/-- The program is its segments, run in order. -/
theorem main_run (c : Dev nD) : main (F := F) c = Pipeline.Seg.run (segs m ρ) := (main_chain c).trans (by chain_rfl)

/-- Every semaphore has a scope. -/
theorem no_unscoped : ∀ sm : SemLoc sig, sm.isScoped .tc = true := by decide

set_option backward.isDefEq.respectTransparency.types false in
/-- The launch runs: the result array ends as the last call left it, every argument ends as launched, every counter ends at zero. -/
theorem run : θ_run defs (onTc (τ := τ) (main (F := F))) ⟨m, fun _ => 0, ρ⟩ (fun r => (∀ c : Dev nD,
      r.2.mem ((c.tc : Thread nD τ).loc main_v2) = (dat2 (V2 m ρ) c).arrAt 2 cfg2.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩), funext fun g => hz g (.inr (no_unscoped g.2))⟩)

end Cert.KernelIdeal.Own

end
-- ==== Proof.Transfer.lean ====
/- The frame of the program as printed, from the one proved for its idealization at any values: the two texts are one. -/
module

public import proofs.«01_k».proof.Defs
public import proofs.«01_k».proof.Proof.Run
public import proofs.«01_k».proof.Proof.Gen.Kernel

@[expose] public section

noncomputable section

namespace Cert.KernelIdeal.Own

open Cert.KernelIdeal Idealize.ShloMosaic Idealize.ShloMosaic.Tactic Idealize.SL.Sem

/-- The idealized program's frame read at any float values `F`: it runs, its arguments end unchanged, every counter ends
    at zero. -/
def Quiescent (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

/-- The frame holds at any values: the launch's run without its result. -/
theorem quiescent (F : FTy → Type) [FloatOps F] : Quiescent F := fun m g _ =>
  (θ_run defs _ _).mono (fun _ h => ⟨fun c => (h.1 c).2, h.2⟩) (run m g)

/-- At the machine's words it is the frame claim of the program as printed, whose text is the same. -/
theorem quiescent_bits_eq : Quiescent Bits = Cert.quiescent_Kernel := by
  sl_kernel_rfl

/-- The frame claim of the program as printed. -/
theorem quiescent_Kernel : Cert.quiescent_Kernel := quiescent_bits_eq ▸ quiescent Bits

end Cert.KernelIdeal.Own

end
-- ==== Proof.Spec.lean ====
/- The mathematics of the three calls, entry by entry over the extended reals. -/
module

public import proofs.«01_k».proof.Proof.Gen.KernelIdeal
public import Idealize.ShloMosaic.Lib.Pointwise

@[expose] public section

noncomputable section

namespace Cert.KernelIdeal.Own

open Cert.KernelIdeal Idealize.ShloMosaic

/-- The fourteen statistics of one quaternion: its four components, then the ten products of two of them. -/
def stat (x : Fin 4 → EReal) : Fin 14 → EReal :=
  ![x 0, x 1, x 2, x 3, x 0 * x 0, x 0 * x 1, x 0 * x 2, x 0 * x 3, x 1 * x 1, x 1 * x 2, x 1 * x 3,
    x 2 * x 2, x 2 * x 3, x 3 * x 3]

/-- Channel of component `q` in group `d`: the sixteen groups of a component lie together. -/
def chan (q : Fin 4) (d : Fin 16) : Fin 64 := ⟨16 * q.val + d.val, by omega⟩

/-- The partial sums the statistics call leaves: the two halves of image `b`, each summed over its rows. -/
def partialOf (x : Vec Ideal S16x64x256x256 .f32) : Vec Ideal S16x14x16x256 .f32 := fun i =>
  (∑ h : Fin 128, stat (fun q => x (ix4 (i 0) (chan q (i 2)) ⟨h.val, by omega⟩ (i 3))) (i 1))
    + ∑ h : Fin 128, stat (fun q => x (ix4 (i 0) (chan q (i 2)) ⟨128 + h.val, by omega⟩ (i 3))) (i 1)

/-- Output plane `q` of group `d` at one position: four parameters against the four components, and an offset. -/
def affine (P : Vec Ideal S20x16 .f32) (x : Fin 4 → EReal) (q : Fin 4) (d : Fin 16) : EReal :=
  x 0 * P (ix2 ⟨4 * q.val, by omega⟩ d) + x 1 * P (ix2 ⟨4 * q.val + 1, by omega⟩ d) + x 2 * P (ix2 ⟨4 * q.val + 2, by omega⟩ d)
    + x 3 * P (ix2 ⟨4 * q.val + 3, by omega⟩ d) + P (ix2 ⟨16 + q.val, by omega⟩ d)

/-- The total of statistic `k` of group `d`, from the partial sums of the images and lanes. -/
def total (P : Vec Ideal S16x14x16x256 .f32) (k : Fin 14) (d : Fin 16) : EReal := ∑ w : Fin 256, ∑ b : Fin 16, P (ix4 b k d w)

/-- The mean of a total over the 2^20 positions. -/
def scaled (t : EReal) : EReal := t * Ideal.ofBits .f32 0x35800000#32

/-- Which statistic is the product of components `a` and `b`. -/
def pairIdx : Fin 4 → Fin 4 → Fin 14 := ![![4, 5, 6, 7], ![5, 8, 9, 10], ![6, 9, 11, 12], ![7, 10, 12, 13]]

/-- Which statistic is the sum of component `a`. -/
def meanIdx : Fin 4 → Fin 14 := ![0, 1, 2, 3]

/-- The means of the four components of a group. -/
def meanOf (P : Vec Ideal S16x14x16x256 .f32) (d : Fin 16) (a : Fin 4) : EReal := scaled (total P (meanIdx a) d)

/-- The covariances of the four components of a group, before the stabilizer: mean of the product minus product of the means. -/
def rawCov (P : Vec Ideal S16x14x16x256 .f32) (d : Fin 16) (a b : Fin 4) : EReal := scaled (total P (pairIdx a b) d) - meanOf P d a * meanOf P d b

/-- A covariance matrix with the stabilizer added on its diagonal. -/
def stab (C : Fin 4 → Fin 4 → EReal) (a b : Fin 4) : EReal := if a = b then C a b + Ideal.ofBits .f32 0x38D1B717#32 else C a b

section sym4

variable {α : Type} (a00 a01 a02 a03 a11 a12 a13 a22 a23 a33 : α)

/-- The symmetric 4x4 matrix with the given entries on and above its diagonal. -/
def sym4 : Fin 4 → Fin 4 → α := ![![a00, a01, a02, a03], ![a01, a11, a12, a13], ![a02, a12, a22, a23], ![a03, a13, a23, a33]]

/-- Entry (0,0) of the symmetric matrix. -/
@[simp] theorem sym4_00 : sym4 a00 a01 a02 a03 a11 a12 a13 a22 a23 a33 0 0 = a00 := rfl
/-- Entry (0,1) of the symmetric matrix. -/
@[simp] theorem sym4_01 : sym4 a00 a01 a02 a03 a11 a12 a13 a22 a23 a33 0 1 = a01 := rfl
/-- Entry (0,2) of the symmetric matrix. -/
@[simp] theorem sym4_02 : sym4 a00 a01 a02 a03 a11 a12 a13 a22 a23 a33 0 2 = a02 := rfl
/-- Entry (0,3) of the symmetric matrix. -/
@[simp] theorem sym4_03 : sym4 a00 a01 a02 a03 a11 a12 a13 a22 a23 a33 0 3 = a03 := rfl
/-- Entry (1,0) of the symmetric matrix. -/
@[simp] theorem sym4_10 : sym4 a00 a01 a02 a03 a11 a12 a13 a22 a23 a33 1 0 = a01 := rfl
/-- Entry (1,1) of the symmetric matrix. -/
@[simp] theorem sym4_11 : sym4 a00 a01 a02 a03 a11 a12 a13 a22 a23 a33 1 1 = a11 := rfl
/-- Entry (1,2) of the symmetric matrix. -/
@[simp] theorem sym4_12 : sym4 a00 a01 a02 a03 a11 a12 a13 a22 a23 a33 1 2 = a12 := rfl
/-- Entry (1,3) of the symmetric matrix. -/
@[simp] theorem sym4_13 : sym4 a00 a01 a02 a03 a11 a12 a13 a22 a23 a33 1 3 = a13 := rfl
/-- Entry (2,0) of the symmetric matrix. -/
@[simp] theorem sym4_20 : sym4 a00 a01 a02 a03 a11 a12 a13 a22 a23 a33 2 0 = a02 := rfl
/-- Entry (2,1) of the symmetric matrix. -/
@[simp] theorem sym4_21 : sym4 a00 a01 a02 a03 a11 a12 a13 a22 a23 a33 2 1 = a12 := rfl
/-- Entry (2,2) of the symmetric matrix. -/
@[simp] theorem sym4_22 : sym4 a00 a01 a02 a03 a11 a12 a13 a22 a23 a33 2 2 = a22 := rfl
/-- Entry (2,3) of the symmetric matrix. -/
@[simp] theorem sym4_23 : sym4 a00 a01 a02 a03 a11 a12 a13 a22 a23 a33 2 3 = a23 := rfl
/-- Entry (3,0) of the symmetric matrix. -/
@[simp] theorem sym4_30 : sym4 a00 a01 a02 a03 a11 a12 a13 a22 a23 a33 3 0 = a03 := rfl
/-- Entry (3,1) of the symmetric matrix. -/
@[simp] theorem sym4_31 : sym4 a00 a01 a02 a03 a11 a12 a13 a22 a23 a33 3 1 = a13 := rfl
/-- Entry (3,2) of the symmetric matrix. -/
@[simp] theorem sym4_32 : sym4 a00 a01 a02 a03 a11 a12 a13 a22 a23 a33 3 2 = a23 := rfl
/-- Entry (3,3) of the symmetric matrix. -/
@[simp] theorem sym4_33 : sym4 a00 a01 a02 a03 a11 a12 a13 a22 a23 a33 3 3 = a33 := rfl

end sym4

section factor

variable (C : Fin 4 → Fin 4 → EReal)

/-- Entry (0,0) of the triangular factor of `C`. -/
def w00 : EReal := Ideal.sqrt (C 0 0)
/-- Entry (0,1) of the triangular factor of `C`. -/
def w01 : EReal := Ideal.div (C 0 1) (w00 C)
/-- Entry (1,1) of the triangular factor of `C`. -/
def w11 : EReal := Ideal.sqrt (C 1 1 - w01 C * w01 C)
/-- Entry (0,2) of the triangular factor of `C`. -/
def w02 : EReal := Ideal.div (C 0 2) (w00 C)
/-- Entry (1,2) of the triangular factor of `C`. -/
def w12 : EReal := Ideal.div (C 1 2 - w01 C * w02 C) (w11 C)
/-- Entry (2,2) of the triangular factor of `C`. -/
def w22 : EReal := Ideal.sqrt (C 2 2 - (w12 C * w12 C + w02 C * w02 C))
/-- Entry (0,3) of the triangular factor of `C`. -/
def w03 : EReal := Ideal.div (C 0 3) (w00 C)
/-- Entry (1,3) of the triangular factor of `C`. -/
def w13 : EReal := Ideal.div (C 1 3 - w01 C * w03 C) (w11 C)
/-- Entry (2,3) of the triangular factor of `C`. -/
def w23 : EReal := Ideal.div (C 2 3 - (w12 C * w13 C + w02 C * w03 C)) (w22 C)
/-- Entry (3,3) of the triangular factor of `C`. -/
def w33 : EReal := Ideal.sqrt (C 3 3 - (w23 C * w23 C + w13 C * w13 C + w03 C * w03 C))

/-- The factor's entries mirrored to a symmetric matrix. -/
def factor : Fin 4 → Fin 4 → EReal := sym4 (w00 C) (w01 C) (w02 C) (w03 C) (w11 C) (w12 C) (w13 C) (w22 C) (w23 C) (w33 C)

end factor

/-- The symmetric matrix of ten per-group vectors at group `d`. -/
def gammaOf (g0 g1 g2 g3 g4 g5 g6 g7 g8 g9 : Vec Ideal S16 .f32) (d : Fin 16) : Fin 4 → Fin 4 → EReal :=
  sym4 (g0 (ix1 d)) (g1 (ix1 d)) (g2 (ix1 d)) (g3 (ix1 d)) (g4 (ix1 d)) (g5 (ix1 d)) (g6 (ix1 d)) (g7 (ix1 d)) (g8 (ix1 d)) (g9 (ix1 d))

/-- Entry (q,p) of the product of two matrices. -/
def coeff (G W : Fin 4 → Fin 4 → EReal) (q p : Fin 4) : EReal := G q 0 * W 0 p + G q 1 * W 1 p + G q 2 * W 2 p + G q 3 * W 3 p

/-- The shift of output component `q`: the bias less the product matrix applied to the means. -/
def offset (G W : Fin 4 → Fin 4 → EReal) (μ : Fin 4 → EReal) (β : EReal) (q : Fin 4) : EReal :=
  β - coeff G W q 0 * μ 0 - coeff G W q 1 * μ 1 - coeff G W q 2 * μ 2 - coeff G W q 3 * μ 3

/-- Row `r` of the parameters at group `d`: the sixteen entries of the product matrix, then the four shifts. -/
def params (G W : Fin 4 → Fin 4 → EReal) (μ : Fin 4 → EReal) (β : Fin 4 → EReal) (r : Fin 20) : EReal :=
  if h : r.val < 16 then coeff G W ⟨r.val / 4, by omega⟩ ⟨r.val % 4, by omega⟩ else offset G W μ (β ⟨r.val - 16, by omega⟩) ⟨r.val - 16, by omega⟩

/-- Row `4 q + p` of the parameters is entry (q,p) of the product matrix. -/
theorem params_coeff (G W : Fin 4 → Fin 4 → EReal) (μ β : Fin 4 → EReal) (r : Fin 20) (q p : Fin 4) (h : r.val = 4 * q.val + p.val) :
    params G W μ β r = coeff G W q p := by
  have hr : r.val < 16 := by omega
  have e1 : (⟨r.val / 4, by omega⟩ : Fin 4) = q := Fin.ext (by show r.val / 4 = q.val; omega)
  have e2 : (⟨r.val % 4, by omega⟩ : Fin 4) = p := Fin.ext (by show r.val % 4 = p.val; omega)
  rw [params, dif_pos hr, e1, e2]

/-- Row `16 + q` of the parameters is the shift of output component `q`. -/
theorem params_offset (G W : Fin 4 → Fin 4 → EReal) (μ β : Fin 4 → EReal) (r : Fin 20) (q : Fin 4) (h : r.val = 16 + q.val) :
    params G W μ β r = offset G W μ (β q) q := by
  have hr : ¬ r.val < 16 := by omega
  have e : (⟨r.val - 16, by omega⟩ : Fin 4) = q := Fin.ext (by show r.val - 16 = q.val; omega)
  rw [params, dif_neg hr, e]

end Cert.KernelIdeal.Own

end
-- ==== Proof.Chol.lean ====
/- The triangular factor of a positive definite 4x4 matrix has real entries. -/
module

public import proofs.«01_k».proof.Proof.Spec
public import Idealize.ShloMosaic.Lib.Pointwise

@[expose] public section

set_option maxRecDepth 16384

noncomputable section

namespace Cert.KernelIdeal.Own

open Cert.KernelIdeal Idealize.ShloMosaic

/-- The quadratic form of a matrix. -/
def quad (C : Fin 4 → Fin 4 → ℝ) (v : Fin 4 → ℝ) : ℝ := ∑ a, ∑ b, v a * v b * C a b

/-- A real square root of a number that is not negative. -/
theorem sqrt_real {e : EReal} {r : ℝ} (h : e = (r : EReal)) (hr : 0 < r) : Ideal.sqrt e = ((Real.sqrt r : ℝ) : EReal) := by
  rw [h, Ideal.sqrt_coe, if_neg (not_lt.mpr hr.le)]

/-- A real quotient by a number that is not zero. -/
theorem div_real {e f : EReal} {r s : ℝ} (h : e = (r : EReal)) (k : f = (s : EReal)) (hs : s ≠ 0) : Ideal.div e f = ((r / s : ℝ) : EReal) := by
  rw [h, k, Ideal.div_coe hs, ← EReal.coe_mul, mul_one_div]

variable {C : Fin 4 → Fin 4 → ℝ}

/-- A symmetric matrix whose quadratic form dominates a positive multiple of the squares has four positive pivots, none of whose roots is zero
    where it divides. -/
theorem pivots {ε : ℝ} (hε : 0 < ε) (hs : ∀ a b, C a b = C b a) (hq : ∀ v : Fin 4 → ℝ, ε * ∑ a, v a * v a ≤ quad C v) :
    ∃ s0 s1 s2 s3 a01 a02 a03 a12 a13 a23 : ℝ, 0 < C 0 0 ∧ s0 = Real.sqrt (C 0 0) ∧ s0 ≠ 0 ∧ a01 = C 0 1 / s0 ∧ a02 = C 0 2 / s0 ∧ a03 = C 0 3 / s0
      ∧ 0 < C 1 1 - a01 * a01 ∧ s1 = Real.sqrt (C 1 1 - a01 * a01) ∧ s1 ≠ 0 ∧ a12 = (C 1 2 - a01 * a02) / s1 ∧ a13 = (C 1 3 - a01 * a03) / s1
      ∧ 0 < C 2 2 - (a12 * a12 + a02 * a02) ∧ s2 = Real.sqrt (C 2 2 - (a12 * a12 + a02 * a02)) ∧ s2 ≠ 0 ∧ a23 = (C 2 3 - (a12 * a13 + a02 * a03)) / s2
      ∧ 0 < C 3 3 - (a23 * a23 + a13 * a13 + a03 * a03) ∧ s3 = Real.sqrt (C 3 3 - (a23 * a23 + a13 * a13 + a03 * a03)) := by
  -- the quadratic form against a vector, bounded below by its squares
  have hv : ∀ v0 v1 v2 v3 : ℝ, ε * (v0 * v0 + v1 * v1 + v2 * v2 + v3 * v3)
      ≤ v0 * v0 * C 0 0 + v1 * v1 * C 1 1 + v2 * v2 * C 2 2 + v3 * v3 * C 3 3
        + 2 * (v0 * v1 * C 0 1 + v0 * v2 * C 0 2 + v0 * v3 * C 0 3 + v1 * v2 * C 1 2 + v1 * v3 * C 1 3 + v2 * v3 * C 2 3) := by
    intro v0 v1 v2 v3
    have h := hq ![v0, v1, v2, v3]
    unfold quad at h
    simp only [Fin.sum_univ_four, Matrix.cons_val_zero, Matrix.cons_val_one, Matrix.cons_val_two, Matrix.cons_val_three, Matrix.head_cons, Matrix.tail_cons, Matrix.cons_val] at h
    rw [hs 1 0, hs 2 0, hs 3 0, hs 2 1, hs 3 1, hs 3 2] at h
    linarith
  have p0 : 0 < C 0 0 := by have := hv 1 0 0 0; linarith
  obtain ⟨s0, e0⟩ : ∃ s0, s0 = Real.sqrt (C 0 0) := ⟨_, rfl⟩
  have n0 : s0 ≠ 0 := by rw [e0]; exact (Real.sqrt_pos.mpr p0).ne'
  have q0 : C 0 0 = s0 * s0 := by rw [e0, Real.mul_self_sqrt p0.le]
  obtain ⟨a01, e01⟩ : ∃ a, a = C 0 1 / s0 := ⟨_, rfl⟩
  obtain ⟨a02, e02⟩ : ∃ a, a = C 0 2 / s0 := ⟨_, rfl⟩
  obtain ⟨a03, e03⟩ : ∃ a, a = C 0 3 / s0 := ⟨_, rfl⟩
  have q01 : C 0 1 = s0 * a01 := by rw [e01]; field_simp
  have q02 : C 0 2 = s0 * a02 := by rw [e02]; field_simp
  have q03 : C 0 3 = s0 * a03 := by rw [e03]; field_simp
  obtain ⟨t1, et1⟩ : ∃ t, t = C 1 1 - a01 * a01 := ⟨_, rfl⟩
  have q11' : C 1 1 = t1 + a01 * a01 := by rw [et1]; ring
  have p1 : 0 < t1 := by
    have h := hv (-(a01 / s0)) 1 0 0
    rw [q0, q01, q11'] at h
    have e : -(a01 / s0) * -(a01 / s0) * (s0 * s0) + 1 * 1 * (t1 + a01 * a01) + 2 * (-(a01 / s0) * 1 * (s0 * a01)) = t1 := by field_simp; ring
    have : 0 ≤ ε * ((a01 / s0) * (a01 / s0)) := mul_nonneg hε.le (mul_self_nonneg _)
    nlinarith
  obtain ⟨s1, e1⟩ : ∃ s, s = Real.sqrt t1 := ⟨_, rfl⟩
  have n1 : s1 ≠ 0 := by rw [e1]; exact (Real.sqrt_pos.mpr p1).ne'
  have q1 : t1 = s1 * s1 := by rw [e1, Real.mul_self_sqrt p1.le]
  have q11 : C 1 1 = s1 * s1 + a01 * a01 := by rw [q11', q1]
  obtain ⟨a12, e12⟩ : ∃ a, a = (C 1 2 - a01 * a02) / s1 := ⟨_, rfl⟩
  obtain ⟨a13, e13⟩ : ∃ a, a = (C 1 3 - a01 * a03) / s1 := ⟨_, rfl⟩
  have q12 : C 1 2 = s1 * a12 + a01 * a02 := by rw [e12]; field_simp; ring
  have q13 : C 1 3 = s1 * a13 + a01 * a03 := by rw [e13]; field_simp; ring
  obtain ⟨t2, et2⟩ : ∃ t, t = C 2 2 - (a12 * a12 + a02 * a02) := ⟨_, rfl⟩
  have q22' : C 2 2 = t2 + (a12 * a12 + a02 * a02) := by rw [et2]; ring
  have p2 : 0 < t2 := by
    obtain ⟨v1, f1⟩ : ∃ v, v = -(a12 / s1) := ⟨_, rfl⟩
    have g1 : s1 * v1 + a12 = 0 := by rw [f1]; field_simp; ring
    obtain ⟨v0, f0⟩ : ∃ v, v = -((a01 * v1 + a02) / s0) := ⟨_, rfl⟩
    have g0 : s0 * v0 + a01 * v1 + a02 = 0 := by rw [f0]; field_simp; ring
    have h := hv v0 v1 1 0
    rw [q0, q01, q02, q11, q12, q22'] at h
    have e : v0 * v0 * (s0 * s0) + v1 * v1 * (s1 * s1 + a01 * a01) + 1 * 1 * (t2 + (a12 * a12 + a02 * a02))
        + 2 * (v0 * v1 * (s0 * a01) + v0 * 1 * (s0 * a02) + v1 * 1 * (s1 * a12 + a01 * a02)) = (s0 * v0 + a01 * v1 + a02) ^ 2 + (s1 * v1 + a12) ^ 2 + t2 := by ring
    rw [g0, g1] at e
    have k0 : 0 ≤ ε * (v0 * v0) := mul_nonneg hε.le (mul_self_nonneg _)
    have k1 : 0 ≤ ε * (v1 * v1) := mul_nonneg hε.le (mul_self_nonneg _)
    linarith
  obtain ⟨s2, e2⟩ : ∃ s, s = Real.sqrt t2 := ⟨_, rfl⟩
  have n2 : s2 ≠ 0 := by rw [e2]; exact (Real.sqrt_pos.mpr p2).ne'
  have q2 : t2 = s2 * s2 := by rw [e2, Real.mul_self_sqrt p2.le]
  have q22 : C 2 2 = s2 * s2 + (a12 * a12 + a02 * a02) := by rw [q22', q2]
  obtain ⟨a23, e23⟩ : ∃ a, a = (C 2 3 - (a12 * a13 + a02 * a03)) / s2 := ⟨_, rfl⟩
  have q23 : C 2 3 = s2 * a23 + (a12 * a13 + a02 * a03) := by rw [e23]; field_simp; ring
  obtain ⟨t3, et3⟩ : ∃ t, t = C 3 3 - (a23 * a23 + a13 * a13 + a03 * a03) := ⟨_, rfl⟩
  have q33 : C 3 3 = t3 + (a23 * a23 + a13 * a13 + a03 * a03) := by rw [et3]; ring
  have p3 : 0 < t3 := by
    obtain ⟨v2, f2⟩ : ∃ v, v = -(a23 / s2) := ⟨_, rfl⟩
    have g2 : s2 * v2 + a23 = 0 := by rw [f2]; field_simp; ring
    obtain ⟨v1, f1⟩ : ∃ v, v = -((a12 * v2 + a13) / s1) := ⟨_, rfl⟩
    have g1 : s1 * v1 + a12 * v2 + a13 = 0 := by rw [f1]; field_simp; ring
    obtain ⟨v0, f0⟩ : ∃ v, v = -((a01 * v1 + a02 * v2 + a03) / s0) := ⟨_, rfl⟩
    have g0 : s0 * v0 + a01 * v1 + a02 * v2 + a03 = 0 := by rw [f0]; field_simp; ring
    have h := hv v0 v1 v2 1
    rw [q0, q01, q02, q03, q11, q12, q13, q22, q23, q33] at h
    have e : v0 * v0 * (s0 * s0) + v1 * v1 * (s1 * s1 + a01 * a01) + v2 * v2 * (s2 * s2 + (a12 * a12 + a02 * a02)) + 1 * 1 * (t3 + (a23 * a23 + a13 * a13 + a03 * a03))
        + 2 * (v0 * v1 * (s0 * a01) + v0 * v2 * (s0 * a02) + v0 * 1 * (s0 * a03) + v1 * v2 * (s1 * a12 + a01 * a02) + v1 * 1 * (s1 * a13 + a01 * a03)
          + v2 * 1 * (s2 * a23 + (a12 * a13 + a02 * a03)))
        = (s0 * v0 + a01 * v1 + a02 * v2 + a03) ^ 2 + (s1 * v1 + a12 * v2 + a13) ^ 2 + (s2 * v2 + a23) ^ 2 + t3 := by ring
    rw [g0, g1, g2] at e
    have k0 : 0 ≤ ε * (v0 * v0) := mul_nonneg hε.le (mul_self_nonneg _)
    have k1 : 0 ≤ ε * (v1 * v1) := mul_nonneg hε.le (mul_self_nonneg _)
    have k2 : 0 ≤ ε * (v2 * v2) := mul_nonneg hε.le (mul_self_nonneg _)
    linarith
  exact ⟨s0, s1, s2, Real.sqrt t3, a01, a02, a03, a12, a13, a23, p0, e0, n0, e01, e02, e03, et1 ▸ p1, et1 ▸ e1, n1, e12, e13, et2 ▸ p2, et2 ▸ e2, n2, e23, et3 ▸ p3, by rw [et3]⟩

/-- The factor of a positive definite real matrix is real. -/
theorem factor_real {ε : ℝ} (hε : 0 < ε) (hs : ∀ a b, C a b = C b a) (hq : ∀ v : Fin 4 → ℝ, ε * ∑ a, v a * v a ≤ quad C v)
    {E : Fin 4 → Fin 4 → EReal} (hE : ∀ a b, E a b = (C a b : EReal)) : ∃ W : Fin 4 → Fin 4 → ℝ, ∀ a b, factor E a b = (W a b : EReal) := by
  obtain ⟨s0, s1, s2, s3, a01, a02, a03, a12, a13, a23, p0, e0, n0, e01, e02, e03, p1, e1, n1, e12, e13, p2, e2, n2, e23, p3, e3⟩ := pivots hε hs hq
  have w00' : w00 E = (s0 : EReal) := by rw [w00, sqrt_real (hE 0 0) p0, ← e0]
  have w01' : w01 E = (a01 : EReal) := by rw [w01, div_real (hE 0 1) w00' n0, ← e01]
  have w02' : w02 E = (a02 : EReal) := by rw [w02, div_real (hE 0 2) w00' n0, ← e02]
  have w03' : w03 E = (a03 : EReal) := by rw [w03, div_real (hE 0 3) w00' n0, ← e03]
  have w11' : w11 E = (s1 : EReal) := by
    rw [w11, sqrt_real (r := C 1 1 - a01 * a01) (by rw [hE, w01']; norm_cast) p1, ← e1]
  have w12' : w12 E = (a12 : EReal) := by
    rw [w12, div_real (r := C 1 2 - a01 * a02) (by rw [hE, w01', w02']; norm_cast) w11' n1, ← e12]
  have w13' : w13 E = (a13 : EReal) := by
    rw [w13, div_real (r := C 1 3 - a01 * a03) (by rw [hE, w01', w03']; norm_cast) w11' n1, ← e13]
  have w22' : w22 E = (s2 : EReal) := by
    rw [w22, sqrt_real (r := C 2 2 - (a12 * a12 + a02 * a02)) (by rw [hE, w12', w02']; norm_cast) p2, ← e2]
  have w23' : w23 E = (a23 : EReal) := by
    rw [w23, div_real (r := C 2 3 - (a12 * a13 + a02 * a03)) (by rw [hE, w12', w13', w02', w03']; norm_cast) w22' n2, ← e23]
  have w33' : w33 E = (s3 : EReal) := by
    rw [w33, sqrt_real (r := C 3 3 - (a23 * a23 + a13 * a13 + a03 * a03)) (by rw [hE, w23', w13', w03']; norm_cast) p3, ← e3]
  refine ⟨sym4 s0 a01 a02 a03 s1 a12 a13 s2 a23 s3, fun a b => ?_⟩
  unfold factor
  rw [w00', w01', w02', w03', w11', w12', w13', w22', w23', w33']
  fin_cases a <;> fin_cases b <;> rfl

end Cert.KernelIdeal.Own

end
-- ==== Proof.Ref.lean ====
/- The reference's result, entry by entry over the extended reals. -/
module

public import proofs.«01_k».proof.Proof.Gen.ReferenceIdeal.Run
public import proofs.«01_k».proof.Proof.Spec
public import Idealize.ShloMosaic.Lib.Pointwise
public import Idealize.ShloMosaic.Lib.IdealHost

@[expose] public section

set_option maxRecDepth 16384

noncomputable section

namespace Cert.ReferenceIdeal.Own

open Cert.ReferenceIdeal Cert.ReferenceIdeal.Gen Cert.ReferenceIdeal.Value
open Cert.KernelIdeal.Own (chan stab sym4 factor gammaOf w00 w01 w02 w03 w11 w12 w13 w22 w23 w33)
open Idealize.ShloMosaic Idealize.ShloMosaic.TcCoe Idealize.ShloMosaic.Tactic
open Idealize.SL.Sem

/-- The sum over the batch and the two spatial axes. -/
def sumAll (f : Fin 16 → Fin 256 → Fin 256 → EReal) : EReal := ∑ b, ∑ h, ∑ w, f b h w

/-- The mean over the batch and the two spatial axes. -/
def meanAll (f : Fin 16 → Fin 256 → Fin 256 → EReal) : EReal := Ideal.div (sumAll f) (Ideal.ofBits .f32 0x49800000#32)

/-- Component `q` of group `d`, less its mean. -/
def cent (x : Vec Ideal S16x64x256x256 .f32) (d : Fin 16) (q : Fin 4) (b : Fin 16) (h w : Fin 256) : EReal :=
  x (ix4 b (chan q d) h w) - meanAll fun b h w => x (ix4 b (chan q d) h w)

/-- The covariances of group `d`: the mean products of two centred components. -/
def covOf (x : Vec Ideal S16x64x256x256 .f32) (d : Fin 16) (p q : Fin 4) : EReal :=
  meanAll fun b h w => cent x d p b h w * cent x d q b h w

/-- A symmetric matrix applied to a quaternion. -/
def apply4 (M : Fin 4 → Fin 4 → EReal) (v : Fin 4 → EReal) (q : Fin 4) : EReal := M q 0 * v 0 + M q 1 * v 1 + M q 2 * v 2 + M q 3 * v 3

/-- The reference's result for output component `q` of group `d` at one position. -/
def refAt (x : Vec Ideal S16x64x256x256 .f32) (G : Fin 4 → Fin 4 → EReal) (β : EReal) (q : Fin 4) (d : Fin 16) (b : Fin 16) (h w : Fin 256) : EReal :=
  apply4 G (apply4 (factor (stab (covOf x d))) fun p => cent x d p b h w) q + β

/-- The fibre of a channel, in coordinates. -/
theorem drop_ix4 {n : ℕ} (hr : Shape.ReducesTo ⟨4, ![16, n, 256, 256]⟩ [0, 2, 3] ⟨1, ![n]⟩) (b : Fin 16) (a : Fin n) (h w : Fin 256) :
    hr.drop (ix4 b a h w) = ix1 a := by
  funext k
  obtain rfl : k = 0 := Subsingleton.elim _ _
  exact Fin.ext (hr.drop_apply_val_of_eq (ix4 b a h w) 0 1 (show 0 < 1 by decide) rfl)

/-- The host's sum over the batch and the two spatial axes. -/
theorem reduce_at {n : ℕ} (v : FVec Ideal ⟨4, ![16, n, 256, 256]⟩ .f32) (hr : Shape.ReducesTo ⟨4, ![16, n, 256, 256]⟩ [0, 2, 3] ⟨1, ![n]⟩) (hu : 0 < S_.numel) (d : Fin n) :
    Host.reduceAdd v (constant S_ .f32 0x00000000#32) hr hu (ix1 d) = sumAll fun b h w => v (ix4 b d h w) := by
  have h0 : Ideal.ofBits .f32 0x00000000#32 = 0 := by simp [Ideal.ofBits, Ideal.ieee]
  rw [ValueIdx.hostReduceAdd_apply]
  unfold Ideal.hostReduceAdd sumAll
  rw [show (constant S_ .f32 0x00000000#32 : FVec Ideal S_ .f32) (Shape.Idx.first hu) = Ideal.ofBits .f32 0x00000000#32 from rfl, h0, zero_add,
    Finset.sum_filter, sum_idx4]
  refine Finset.sum_congr rfl fun b _ => ?_
  rw [Finset.sum_eq_single d]
  · refine Finset.sum_congr rfl fun h _ => Finset.sum_congr rfl fun w _ => ?_
    rw [drop_ix4, if_pos rfl]
  · intro a _ ha
    refine Finset.sum_eq_zero fun h _ => Finset.sum_eq_zero fun w _ => ?_
    rw [drop_ix4, if_neg fun e => ha (congrFun e 0)]
  · intro ha
    exact absurd (Finset.mem_univ d) ha

section generic

variable {s : Shape} (i : s.Idx)

/-- A sum of two arrays at an index. -/
theorem add_at (u v : FVec Ideal s .f32) : addf u v i = (u i + v i : EReal) := rfl
/-- A difference of two arrays at an index. -/
theorem sub_at (u v : FVec Ideal s .f32) : subf u v i = (u i - v i : EReal) := rfl
/-- A product of two arrays at an index. -/
theorem mul_at (u v : FVec Ideal s .f32) : mulf u v i = (u i * v i : EReal) := rfl
/-- A quotient of two arrays at an index. -/
theorem div_at (u v : FVec Ideal s .f32) : Host.divf u v i = Ideal.div (u i) (v i) := rfl
/-- A square root of an array at an index. -/
theorem sqrt_at (u : FVec Ideal s .f32) : Host.sqrt u i = Ideal.sqrt (u i) := rfl

end generic

/-- A constant spread over a row. -/
theorem const_at (c : BitVec 32) (hb : S_.BroadcastsInDim S16 ![]) (d : Fin 16) :
    broadcastInDim S16 ![] hb (constant S_ .f32 c : FVec Ideal S_ .f32) (ix1 d) = Ideal.ofBits .f32 c := rfl

/-- An array less its channel means. -/
theorem center_at (X : FVec Ideal S16x64x256x256 .f32) (T : FVec Ideal S64 .f32) (b : Fin 16) (c : Fin 64) (h w : Fin 256) :
    subf X (broadcastInDim S16x64x256x256 ![0, 1, 2, 3] bcast_S1x64x1x1_S16x64x256x256_0_1_2_3 (Host.divf (broadcastInDim S1x64x1x1 ![1] bcast_S64_S1x64x1x1_1 T) (broadcastInDim S1x64x1x1 ![] bcast_S_S1x64x1x1 (constant S_ .f32 0x49800000#32)))) (ix4 b c h w)
      = (X (ix4 b c h w) - Ideal.div (T (ix1 c)) (Ideal.ofBits .f32 0x49800000#32) : EReal) := by
  pointwise

/-- A row spread over a plane. -/
theorem spread_at {α : Type} (r : S1x16x1x1.Idx → α) (b d : Fin 16) (h w : Fin 256) :
    broadcastInDim S16x16x256x256 ![0, 1, 2, 3] bcast_S1x16x1x1_S16x16x256x256_0_1_2_3 r (ix4 b d h w) = r (ix4 0 d 0 0) := by
  pointwise

/-- A vector as a row. -/
theorem row_at {α : Type} (v : S16.Idx → α) (d : Fin 16) : broadcastInDim S1x16x1x1 ![1] bcast_S16_S1x16x1x1_1 v (ix4 0 d 0 0) = v (ix1 d) := by
  pointwise

/-- The bias spread over the result. -/
theorem bias_at (v : FVec Ideal S64 .f32) (b : Fin 16) (c : Fin 64) (h w : Fin 256) :
    broadcastInDim S16x64x256x256 ![0, 1, 2, 3] bcast_S1x64x1x1_S16x64x256x256_0_1_2_3 (broadcastInDim S1x64x1x1 ![1] bcast_S64_S1x64x1x1_1 v) (ix4 b c h w) = v (ix1 c) := by
  pointwise

/-- Four rows against four planes. -/
theorem plane_at {r0 r1 r2 r3 : FVec Ideal S1x16x1x1 .f32} {s0 s1 s2 s3 : FVec Ideal S16x16x256x256 .f32} {M : Fin 4 → Fin 4 → EReal} {v : Fin 4 → EReal}
    {b d : Fin 16} {h w : Fin 256} (q : Fin 4) (h0 : r0 (ix4 0 d 0 0) = M q 0) (h1 : r1 (ix4 0 d 0 0) = M q 1) (h2 : r2 (ix4 0 d 0 0) = M q 2) (h3 : r3 (ix4 0 d 0 0) = M q 3)
    (k0 : s0 (ix4 b d h w) = v 0) (k1 : s1 (ix4 b d h w) = v 1) (k2 : s2 (ix4 b d h w) = v 2) (k3 : s3 (ix4 b d h w) = v 3) :
    addf (addf (addf (mulf (broadcastInDim S16x16x256x256 ![0, 1, 2, 3] bcast_S1x16x1x1_S16x16x256x256_0_1_2_3 r0) s0)
      (mulf (broadcastInDim S16x16x256x256 ![0, 1, 2, 3] bcast_S1x16x1x1_S16x16x256x256_0_1_2_3 r1) s1))
      (mulf (broadcastInDim S16x16x256x256 ![0, 1, 2, 3] bcast_S1x16x1x1_S16x16x256x256_0_1_2_3 r2) s2))
      (mulf (broadcastInDim S16x16x256x256 ![0, 1, 2, 3] bcast_S1x16x1x1_S16x16x256x256_0_1_2_3 r3) s3) (ix4 b d h w) = apply4 M v q := by
  rw [add_at, add_at, add_at, mul_at, mul_at, mul_at, mul_at, spread_at, spread_at, spread_at, spread_at, h0, h1, h2, h3, k0, k1, k2, k3, apply4]

/-- A mean product of two planes. -/
theorem cov_at {u v : FVec Ideal S16x16x256x256 .f32} {U V : Fin 16 → Fin 256 → Fin 256 → EReal} {d : Fin 16}
    (hu : ∀ b h w, u (ix4 b d h w) = U b h w) (hv : ∀ b h w, v (ix4 b d h w) = V b h w) :
    Host.divf (Host.reduceAdd (mulf u v) (constant S_ .f32 0x00000000#32) reducesTo_S16x16x256x256_S16_d0_2_3 h_S_)
      (broadcastInDim S16 ![] bcast_S_S16 (constant S_ .f32 0x49800000#32)) (ix1 d) = meanAll fun b h w => U b h w * V b h w := by
  rw [div_at, const_at, reduce_at]
  simp only [mul_at, hu, hv]
  rw [meanAll]

/-- The four planes one after another. -/
theorem cat_at (u0 u1 u2 u3 : FVec Ideal S16x16x256x256 .f32) (q : Fin 4) (b d : Fin 16) (h w : Fin 256) :
    concatenate S16x64x256x256 1 [⟨S16x16x256x256, u0⟩, ⟨S16x16x256x256, u1⟩, ⟨S16x16x256x256, u2⟩, ⟨S16x16x256x256, u3⟩]
      concatenates_S16x16x256x256_S16x16x256x256_S16x16x256x256_S16x16x256x256_S16x64x256x256_d1 (ix4 b (chan q d) h w)
      = (![u0, u1, u2, u3] : Fin 4 → FVec Ideal S16x16x256x256 .f32) q (ix4 b d h w) := by
  obtain ⟨d, hd⟩ := d
  obtain ⟨q, hq⟩ := q
  interval_cases q
  · rw [show chan ⟨0, hq⟩ ⟨d, hd⟩ = ⟨d, by omega⟩ from Fin.ext (by show 16 * 0 + d = d; omega)]
    pointwise
    rw [dif_pos hd]
  · rw [show chan ⟨1, hq⟩ ⟨d, hd⟩ = ⟨16 + d, by omega⟩ from Fin.ext (by show 16 * 1 + d = 16 + d; omega)]
    pointwise
    rw [dif_pos hd]
  · rw [show chan ⟨2, hq⟩ ⟨d, hd⟩ = ⟨32 + d, by omega⟩ from Fin.ext (by show 16 * 2 + d = 32 + d; omega)]
    pointwise
    rw [dif_neg (by omega), dif_neg (by omega), dif_pos (by omega)]
    exact congrArg (fun k => u2 (ix4 b k h w)) (Fin.ext (by show 32 + d - 16 - 16 = d; omega))
  · rw [show chan ⟨3, hq⟩ ⟨d, hd⟩ = ⟨48 + d, by omega⟩ from Fin.ext (by show 16 * 3 + d = 48 + d; omega)]
    pointwise
    rw [dif_neg (by omega), dif_neg (by omega), dif_neg (by omega)]
    exact congrArg (fun k => u3 (ix4 b k h w)) (Fin.ext (by show 48 + d - 16 - 16 - 16 = d; omega))

/-- On the diagonal the stabilizer is added. -/
theorem stab_diag (C : Fin 4 → Fin 4 → EReal) (a : Fin 4) : stab C a a = C a a + Ideal.ofBits .f32 0x38D1B717#32 := if_pos rfl
/-- Off the diagonal nothing is added. -/
theorem stab_off (C : Fin 4 → Fin 4 → EReal) {a b : Fin 4} (h : a ≠ b) : stab C a b = C a b := if_neg h

/-- A slice of sixteen channels. -/
theorem slice_at (X : FVec Ideal S16x64x256x256 .f32) (q : Fin 4) (o : ℕ) (ho : o = 16 * q.val) (hs : S16x64x256x256.Slices ![0, o, 0, 0] S16x16x256x256)
    (b d : Fin 16) (h w : Fin 256) : extractStridedSlice S16x16x256x256 ![0, o, 0, 0] X hs (ix4 b d h w) = X (ix4 b (chan q d) h w) := by
  subst ho
  pointwise
  rfl

section stages

variable (L : Valuation τ sig (Elt Ideal))

/-- The first argument of the reference. -/
abbrev argX : Vec Ideal S16x64x256x256 .f32 := L (Proc.devRef .tc main_arg0)

/-- The centred argument. -/
theorem v5_at (q : Fin 4) (d : Fin 16) (b : Fin 16) (h w : Fin 256) : res_main_v5 L (ix4 b (chan q d) h w) = cent (argX L) d q b h w := by
  unfold res_main_v5
  rw [center_at, reduce_at _ _ h_S_]
  rfl

/-- Component 0 of the centred argument. -/
theorem v6_at (d : Fin 16) (b : Fin 16) (h w : Fin 256) : res_main_v6 L (ix4 b d h w) = cent (argX L) d 0 b h w := by
  unfold res_main_v6
  rw [← v5_at L 0 d b h w]
  exact slice_at (res_main_v5 L) 0 0 rfl _ b d h w

/-- Component 1 of the centred argument. -/
theorem v7_at (d : Fin 16) (b : Fin 16) (h w : Fin 256) : res_main_v7 L (ix4 b d h w) = cent (argX L) d 1 b h w := by
  unfold res_main_v7
  rw [← v5_at L 1 d b h w]
  exact slice_at (res_main_v5 L) 1 16 rfl _ b d h w

/-- Component 2 of the centred argument. -/
theorem v8_at (d : Fin 16) (b : Fin 16) (h w : Fin 256) : res_main_v8 L (ix4 b d h w) = cent (argX L) d 2 b h w := by
  unfold res_main_v8
  rw [← v5_at L 2 d b h w]
  exact slice_at (res_main_v5 L) 2 32 rfl _ b d h w

/-- Component 3 of the centred argument. -/
theorem v9_at (d : Fin 16) (b : Fin 16) (h w : Fin 256) : res_main_v9 L (ix4 b d h w) = cent (argX L) d 3 b h w := by
  unfold res_main_v9
  rw [← v5_at L 3 d b h w]
  exact slice_at (res_main_v5 L) 3 48 rfl _ b d h w

/-- The mean product of components 0 and 0. -/
theorem c00_at (d : Fin 16) : Host.divf (Host.reduceAdd (mulf (res_main_v6 L) (res_main_v6 L)) (constant S_ .f32 0x00000000#32) reducesTo_S16x16x256x256_S16_d0_2_3 h_S_)
      (broadcastInDim S16 ![] bcast_S_S16 (constant S_ .f32 0x49800000#32)) (ix1 d) = covOf (argX L) d 0 0 := cov_at (v6_at L d) (v6_at L d)

/-- The mean product of components 0 and 1. -/
theorem c01_at (d : Fin 16) : Host.divf (Host.reduceAdd (mulf (res_main_v6 L) (res_main_v7 L)) (constant S_ .f32 0x00000000#32) reducesTo_S16x16x256x256_S16_d0_2_3 h_S_)
      (broadcastInDim S16 ![] bcast_S_S16 (constant S_ .f32 0x49800000#32)) (ix1 d) = covOf (argX L) d 0 1 := cov_at (v6_at L d) (v7_at L d)

/-- The mean product of components 0 and 2. -/
theorem c02_at (d : Fin 16) : Host.divf (Host.reduceAdd (mulf (res_main_v6 L) (res_main_v8 L)) (constant S_ .f32 0x00000000#32) reducesTo_S16x16x256x256_S16_d0_2_3 h_S_)
      (broadcastInDim S16 ![] bcast_S_S16 (constant S_ .f32 0x49800000#32)) (ix1 d) = covOf (argX L) d 0 2 := cov_at (v6_at L d) (v8_at L d)

/-- The mean product of components 0 and 3. -/
theorem c03_at (d : Fin 16) : Host.divf (Host.reduceAdd (mulf (res_main_v6 L) (res_main_v9 L)) (constant S_ .f32 0x00000000#32) reducesTo_S16x16x256x256_S16_d0_2_3 h_S_)
      (broadcastInDim S16 ![] bcast_S_S16 (constant S_ .f32 0x49800000#32)) (ix1 d) = covOf (argX L) d 0 3 := cov_at (v6_at L d) (v9_at L d)

/-- The mean product of components 1 and 1. -/
theorem c11_at (d : Fin 16) : Host.divf (Host.reduceAdd (mulf (res_main_v7 L) (res_main_v7 L)) (constant S_ .f32 0x00000000#32) reducesTo_S16x16x256x256_S16_d0_2_3 h_S_)
      (broadcastInDim S16 ![] bcast_S_S16 (constant S_ .f32 0x49800000#32)) (ix1 d) = covOf (argX L) d 1 1 := cov_at (v7_at L d) (v7_at L d)

/-- The mean product of components 1 and 2. -/
theorem c12_at (d : Fin 16) : Host.divf (Host.reduceAdd (mulf (res_main_v7 L) (res_main_v8 L)) (constant S_ .f32 0x00000000#32) reducesTo_S16x16x256x256_S16_d0_2_3 h_S_)
      (broadcastInDim S16 ![] bcast_S_S16 (constant S_ .f32 0x49800000#32)) (ix1 d) = covOf (argX L) d 1 2 := cov_at (v7_at L d) (v8_at L d)

/-- The mean product of components 1 and 3. -/
theorem c13_at (d : Fin 16) : Host.divf (Host.reduceAdd (mulf (res_main_v7 L) (res_main_v9 L)) (constant S_ .f32 0x00000000#32) reducesTo_S16x16x256x256_S16_d0_2_3 h_S_)
      (broadcastInDim S16 ![] bcast_S_S16 (constant S_ .f32 0x49800000#32)) (ix1 d) = covOf (argX L) d 1 3 := cov_at (v7_at L d) (v9_at L d)

/-- The mean product of components 2 and 2. -/
theorem c22_at (d : Fin 16) : Host.divf (Host.reduceAdd (mulf (res_main_v8 L) (res_main_v8 L)) (constant S_ .f32 0x00000000#32) reducesTo_S16x16x256x256_S16_d0_2_3 h_S_)
      (broadcastInDim S16 ![] bcast_S_S16 (constant S_ .f32 0x49800000#32)) (ix1 d) = covOf (argX L) d 2 2 := cov_at (v8_at L d) (v8_at L d)

/-- The mean product of components 2 and 3. -/
theorem c23_at (d : Fin 16) : Host.divf (Host.reduceAdd (mulf (res_main_v8 L) (res_main_v9 L)) (constant S_ .f32 0x00000000#32) reducesTo_S16x16x256x256_S16_d0_2_3 h_S_)
      (broadcastInDim S16 ![] bcast_S_S16 (constant S_ .f32 0x49800000#32)) (ix1 d) = covOf (argX L) d 2 3 := cov_at (v8_at L d) (v9_at L d)

/-- The mean product of components 3 and 3. -/
theorem c33_at (d : Fin 16) : Host.divf (Host.reduceAdd (mulf (res_main_v9 L) (res_main_v9 L)) (constant S_ .f32 0x00000000#32) reducesTo_S16x16x256x256_S16_d0_2_3 h_S_)
      (broadcastInDim S16 ![] bcast_S_S16 (constant S_ .f32 0x49800000#32)) (ix1 d) = covOf (argX L) d 3 3 := cov_at (v9_at L d) (v9_at L d)

/-- Entry (0,0) of the reference's factor. -/
theorem v58_at (d : Fin 16) : res_main_v58 L (ix1 d) = w00 (stab (covOf (argX L) d)) := by
  have hc := c00_at L d
  unfold res_main_v58
  rw [w00, stab_diag]
  simp only [add_at, sub_at, mul_at, div_at, sqrt_at, const_at] at hc ⊢
  rw [hc, const_at]

/-- Entry (0,1) of the reference's factor. -/
theorem v59_at (d : Fin 16) : res_main_v59 L (ix1 d) = w01 (stab (covOf (argX L) d)) := by
  have hc := c01_at L d
  unfold res_main_v59
  rw [w01, stab_off _ (by decide)]
  simp only [add_at, sub_at, mul_at, div_at, sqrt_at, const_at, v58_at] at hc ⊢
  rw [hc]

/-- Entry (1,1) of the reference's factor. -/
theorem v62_at (d : Fin 16) : res_main_v62 L (ix1 d) = w11 (stab (covOf (argX L) d)) := by
  have hc := c11_at L d
  unfold res_main_v62
  rw [w11, stab_diag]
  simp only [add_at, sub_at, mul_at, div_at, sqrt_at, const_at, v59_at] at hc ⊢
  rw [hc, const_at]

/-- Entry (0,2) of the reference's factor. -/
theorem v63_at (d : Fin 16) : res_main_v63 L (ix1 d) = w02 (stab (covOf (argX L) d)) := by
  have hc := c02_at L d
  unfold res_main_v63
  rw [w02, stab_off _ (by decide)]
  simp only [add_at, sub_at, mul_at, div_at, sqrt_at, const_at, v58_at] at hc ⊢
  rw [hc]

/-- Entry (1,2) of the reference's factor. -/
theorem v66_at (d : Fin 16) : res_main_v66 L (ix1 d) = w12 (stab (covOf (argX L) d)) := by
  have hc := c12_at L d
  unfold res_main_v66
  rw [w12, stab_off _ (by decide)]
  simp only [add_at, sub_at, mul_at, div_at, sqrt_at, const_at, v59_at, v63_at, v62_at] at hc ⊢
  rw [hc]

/-- Entry (2,2) of the reference's factor. -/
theorem v71_at (d : Fin 16) : res_main_v71 L (ix1 d) = w22 (stab (covOf (argX L) d)) := by
  have hc := c22_at L d
  unfold res_main_v71
  rw [w22, stab_diag]
  simp only [add_at, sub_at, mul_at, div_at, sqrt_at, const_at, v66_at, v63_at] at hc ⊢
  rw [hc, const_at]

/-- Entry (0,3) of the reference's factor. -/
theorem v72_at (d : Fin 16) : res_main_v72 L (ix1 d) = w03 (stab (covOf (argX L) d)) := by
  have hc := c03_at L d
  unfold res_main_v72
  rw [w03, stab_off _ (by decide)]
  simp only [add_at, sub_at, mul_at, div_at, sqrt_at, const_at, v58_at] at hc ⊢
  rw [hc]

/-- Entry (1,3) of the reference's factor. -/
theorem v75_at (d : Fin 16) : res_main_v75 L (ix1 d) = w13 (stab (covOf (argX L) d)) := by
  have hc := c13_at L d
  unfold res_main_v75
  rw [w13, stab_off _ (by decide)]
  simp only [add_at, sub_at, mul_at, div_at, sqrt_at, const_at, v59_at, v72_at, v62_at] at hc ⊢
  rw [hc]

/-- Entry (2,3) of the reference's factor. -/
theorem v80_at (d : Fin 16) : res_main_v80 L (ix1 d) = w23 (stab (covOf (argX L) d)) := by
  have hc := c23_at L d
  unfold res_main_v80
  rw [w23, stab_off _ (by decide)]
  simp only [add_at, sub_at, mul_at, div_at, sqrt_at, const_at, v66_at, v75_at, v63_at, v72_at, v71_at] at hc ⊢
  rw [hc]

/-- Entry (3,3) of the reference's factor. -/
theorem kk_at (d : Fin 16) : Host.sqrt (subf (addf (Host.divf (Host.reduceAdd (mulf (res_main_v9 L) (res_main_v9 L)) (constant S_ .f32 0x00000000#32) reducesTo_S16x16x256x256_S16_d0_2_3 h_S_) (broadcastInDim S16 ![] bcast_S_S16 (constant S_ .f32 0x49800000#32))) (broadcastInDim S16 ![] bcast_S_S16 (constant S_ .f32 0x38D1B717#32))) (addf (addf (mulf (res_main_v80 L) (res_main_v80 L)) (mulf (res_main_v75 L) (res_main_v75 L))) (mulf (res_main_v72 L) (res_main_v72 L)))) (ix1 d) = w33 (stab (covOf (argX L) d)) := by
  have hc := c33_at L d
  rw [w33, stab_diag]
  simp only [add_at, sub_at, mul_at, div_at, sqrt_at, const_at, v80_at, v75_at, v72_at] at hc ⊢
  rw [hc, const_at]

/-- A factor entry as a row. -/
theorem v89_at (d : Fin 16) : res_main_v89 L (ix4 0 d 0 0) = w01 (stab (covOf (argX L) d)) := by
  unfold res_main_v89
  rw [row_at, v59_at]

/-- A factor entry as a row. -/
theorem v90_at (d : Fin 16) : res_main_v90 L (ix4 0 d 0 0) = w02 (stab (covOf (argX L) d)) := by
  unfold res_main_v90
  rw [row_at, v63_at]

/-- A factor entry as a row. -/
theorem v91_at (d : Fin 16) : res_main_v91 L (ix4 0 d 0 0) = w03 (stab (covOf (argX L) d)) := by
  unfold res_main_v91
  rw [row_at, v72_at]

/-- A factor entry as a row. -/
theorem v93_at (d : Fin 16) : res_main_v93 L (ix4 0 d 0 0) = w12 (stab (covOf (argX L) d)) := by
  unfold res_main_v93
  rw [row_at, v66_at]

/-- A factor entry as a row. -/
theorem v94_at (d : Fin 16) : res_main_v94 L (ix4 0 d 0 0) = w13 (stab (covOf (argX L) d)) := by
  unfold res_main_v94
  rw [row_at, v75_at]

/-- A factor entry as a row. -/
theorem v96_at (d : Fin 16) : res_main_v96 L (ix4 0 d 0 0) = w23 (stab (covOf (argX L) d)) := by
  unfold res_main_v96
  rw [row_at, v80_at]

/-- Component 0 of the factor applied to the centred argument. -/
theorem v108_at (b d : Fin 16) (h w : Fin 256) : res_main_v108 L (ix4 b d h w) = apply4 (factor (stab (covOf (argX L) d))) (fun p => cent (argX L) d p b h w) 0 := by
  unfold res_main_v108
  exact plane_at 0 ((row_at _ d).trans (v58_at L d)) (v89_at L d) (v90_at L d) (v91_at L d) (v6_at L d b h w) (v7_at L d b h w) (v8_at L d b h w) (v9_at L d b h w)

/-- Component 1 of the factor applied to the centred argument. -/
theorem v119_at (b d : Fin 16) (h w : Fin 256) : res_main_v119 L (ix4 b d h w) = apply4 (factor (stab (covOf (argX L) d))) (fun p => cent (argX L) d p b h w) 1 := by
  unfold res_main_v119
  exact plane_at 1 (v89_at L d) ((row_at _ d).trans (v62_at L d)) (v93_at L d) (v94_at L d) (v6_at L d b h w) (v7_at L d b h w) (v8_at L d b h w) (v9_at L d b h w)

/-- Component 2 of the factor applied to the centred argument. -/
theorem v130_at (b d : Fin 16) (h w : Fin 256) : res_main_v130 L (ix4 b d h w) = apply4 (factor (stab (covOf (argX L) d))) (fun p => cent (argX L) d p b h w) 2 := by
  unfold res_main_v130
  exact plane_at 2 (v90_at L d) (v93_at L d) ((row_at _ d).trans (v71_at L d)) (v96_at L d) (v6_at L d b h w) (v7_at L d b h w) (v8_at L d b h w) (v9_at L d b h w)

/-- Component 3 of the factor applied to the centred argument. -/
theorem v141_at (b d : Fin 16) (h w : Fin 256) : res_main_v141 L (ix4 b d h w) = apply4 (factor (stab (covOf (argX L) d))) (fun p => cent (argX L) d p b h w) 3 := by
  unfold res_main_v141
  exact plane_at 3 (v91_at L d) (v94_at L d) (v96_at L d) ((row_at _ d).trans (kk_at L d)) (v6_at L d b h w) (v7_at L d b h w) (v8_at L d b h w) (v9_at L d b h w)

/-- An entry of the gain matrix as a row. -/
theorem v143_at (d : Fin 16) : res_main_v143 L (ix4 0 d 0 0) = (L (Proc.devRef .tc main_arg2) : FVec Ideal S16 .f32) (ix1 d) := by
  unfold res_main_v143
  exact row_at _ d

/-- An entry of the gain matrix as a row. -/
theorem v144_at (d : Fin 16) : res_main_v144 L (ix4 0 d 0 0) = (L (Proc.devRef .tc main_arg3) : FVec Ideal S16 .f32) (ix1 d) := by
  unfold res_main_v144
  exact row_at _ d

/-- An entry of the gain matrix as a row. -/
theorem v145_at (d : Fin 16) : res_main_v145 L (ix4 0 d 0 0) = (L (Proc.devRef .tc main_arg4) : FVec Ideal S16 .f32) (ix1 d) := by
  unfold res_main_v145
  exact row_at _ d

/-- An entry of the gain matrix as a row. -/
theorem v147_at (d : Fin 16) : res_main_v147 L (ix4 0 d 0 0) = (L (Proc.devRef .tc main_arg6) : FVec Ideal S16 .f32) (ix1 d) := by
  unfold res_main_v147
  exact row_at _ d

/-- An entry of the gain matrix as a row. -/
theorem v148_at (d : Fin 16) : res_main_v148 L (ix4 0 d 0 0) = (L (Proc.devRef .tc main_arg7) : FVec Ideal S16 .f32) (ix1 d) := by
  unfold res_main_v148
  exact row_at _ d

/-- An entry of the gain matrix as a row. -/
theorem v150_at (d : Fin 16) : res_main_v150 L (ix4 0 d 0 0) = (L (Proc.devRef .tc main_arg9) : FVec Ideal S16 .f32) (ix1 d) := by
  unfold res_main_v150
  exact row_at _ d

/-- The matrix of the gains of group `d`. -/
abbrev argG (d : Fin 16) : Fin 4 → Fin 4 → EReal :=
  gammaOf (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) d

/-- The reference's result. -/
def result : FVec Ideal S16x64x256x256 .f32 :=
  addf ((concatenate S16x64x256x256 1 [⟨S16x16x256x256, ((addf (addf (addf (mulf (broadcastInDim S16x16x256x256 ![0, 1, 2, 3] bcast_S1x16x1x1_S16x16x256x256_0_1_2_3 (broadcastInDim S1x16x1x1 ![1] bcast_S16_S1x16x1x1_1 (L (Proc.devRef .tc main_arg1)))) (res_main_v108 L)) (mulf (broadcastInDim S16x16x256x256 ![0, 1, 2, 3] bcast_S1x16x1x1_S16x16x256x256_0_1_2_3 (res_main_v143 L)) (res_main_v119 L))) (mulf (broadcastInDim S16x16x256x256 ![0, 1, 2, 3] bcast_S1x16x1x1_S16x16x256x256_0_1_2_3 (res_main_v144 L)) (res_main_v130 L))) (mulf (broadcastInDim S16x16x256x256 ![0, 1, 2, 3] bcast_S1x16x1x1_S16x16x256x256_0_1_2_3 (res_main_v145 L)) (res_main_v141 L))) : (⟨S16x16x256x256, .f32⟩ : BufTy).Contents (Elt Ideal))⟩, ⟨S16x16x256x256, ((addf (addf (addf (mulf (broadcastInDim S16x16x256x256 ![0, 1, 2, 3] bcast_S1x16x1x1_S16x16x256x256_0_1_2_3 (res_main_v143 L)) (res_main_v108 L)) (mulf (broadcastInDim S16x16x256x256 ![0, 1, 2, 3] bcast_S1x16x1x1_S16x16x256x256_0_1_2_3 (broadcastInDim S1x16x1x1 ![1] bcast_S16_S1x16x1x1_1 (L (Proc.devRef .tc main_arg5)))) (res_main_v119 L))) (mulf (broadcastInDim S16x16x256x256 ![0, 1, 2, 3] bcast_S1x16x1x1_S16x16x256x256_0_1_2_3 (res_main_v147 L)) (res_main_v130 L))) (mulf (broadcastInDim S16x16x256x256 ![0, 1, 2, 3] bcast_S1x16x1x1_S16x16x256x256_0_1_2_3 (res_main_v148 L)) (res_main_v141 L))) : (⟨S16x16x256x256, .f32⟩ : BufTy).Contents (Elt Ideal))⟩, ⟨S16x16x256x256, ((addf (addf (addf (mulf (broadcastInDim S16x16x256x256 ![0, 1, 2, 3] bcast_S1x16x1x1_S16x16x256x256_0_1_2_3 (res_main_v144 L)) (res_main_v108 L)) (mulf (broadcastInDim S16x16x256x256 ![0, 1, 2, 3] bcast_S1x16x1x1_S16x16x256x256_0_1_2_3 (res_main_v147 L)) (res_main_v119 L))) (mulf (broadcastInDim S16x16x256x256 ![0, 1, 2, 3] bcast_S1x16x1x1_S16x16x256x256_0_1_2_3 (broadcastInDim S1x16x1x1 ![1] bcast_S16_S1x16x1x1_1 (L (Proc.devRef .tc main_arg8)))) (res_main_v130 L))) (mulf (broadcastInDim S16x16x256x256 ![0, 1, 2, 3] bcast_S1x16x1x1_S16x16x256x256_0_1_2_3 (res_main_v150 L)) (res_main_v141 L))) : (⟨S16x16x256x256, .f32⟩ : BufTy).Contents (Elt Ideal))⟩, ⟨S16x16x256x256, ((addf (addf (addf (mulf (broadcastInDim S16x16x256x256 ![0, 1, 2, 3] bcast_S1x16x1x1_S16x16x256x256_0_1_2_3 (res_main_v145 L)) (res_main_v108 L)) (mulf (broadcastInDim S16x16x256x256 ![0, 1, 2, 3] bcast_S1x16x1x1_S16x16x256x256_0_1_2_3 (res_main_v148 L)) (res_main_v119 L))) (mulf (broadcastInDim S16x16x256x256 ![0, 1, 2, 3] bcast_S1x16x1x1_S16x16x256x256_0_1_2_3 (res_main_v150 L)) (res_main_v130 L))) (mulf (broadcastInDim S16x16x256x256 ![0, 1, 2, 3] bcast_S1x16x1x1_S16x16x256x256_0_1_2_3 (broadcastInDim S1x16x1x1 ![1] bcast_S16_S1x16x1x1_1 (L (Proc.devRef .tc main_arg10)))) (res_main_v141 L))) : (⟨S16x16x256x256, .f32⟩ : BufTy).Contents (Elt Ideal))⟩] concatenates_S16x16x256x256_S16x16x256x256_S16x16x256x256_S16x16x256x256_S16x64x256x256_d1 : (⟨S16x64x256x256, .f32⟩ : BufTy).Contents (Elt Ideal))) (broadcastInDim S16x64x256x256 ![0, 1, 2, 3] bcast_S1x64x1x1_S16x64x256x256_0_1_2_3 (broadcastInDim S1x64x1x1 ![1] bcast_S64_S1x64x1x1_1 (L (Proc.devRef .tc main_arg11))))

/-- The reference's result at an index. -/
theorem result_at (q : Fin 4) (b d : Fin 16) (h w : Fin 256) :
    result L (ix4 b (chan q d) h w) = refAt (argX L) (argG L d) ((L (Proc.devRef .tc main_arg11) : FVec Ideal S64 .f32) (ix1 (chan q d))) q d b h w := by
  unfold result
  rw [add_at, bias_at, cat_at, refAt]
  refine congrArg (· + _) ?_
  obtain ⟨q, hq⟩ := q
  interval_cases q
  · exact plane_at (M := argG L d) 0 (row_at _ d) (v143_at L d) (v144_at L d) (v145_at L d) (v108_at L b d h w) (v119_at L b d h w) (v130_at L b d h w) (v141_at L b d h w)
  · exact plane_at (M := argG L d) 1 (v143_at L d) (row_at _ d) (v147_at L d) (v148_at L d) (v108_at L b d h w) (v119_at L b d h w) (v130_at L b d h w) (v141_at L b d h w)
  · exact plane_at (M := argG L d) 2 (v144_at L d) (v147_at L d) (row_at _ d) (v150_at L d) (v108_at L b d h w) (v119_at L b d h w) (v130_at L b d h w) (v141_at L b d h w)
  · exact plane_at (M := argG L d) 3 (v145_at L d) (v148_at L d) (v150_at L d) (row_at _ d) (v108_at L b d h w) (v119_at L b d h w) (v130_at L b d h w) (v141_at L b d h w)

end stages

end Cert.ReferenceIdeal.Own

end
-- ==== Proof.Math.lean ====
/- The two programs' formulas agree on real data. -/
module

public import proofs.«01_k».proof.Proof.Chol
public import proofs.«01_k».proof.Proof.Ref

@[expose] public section

set_option maxRecDepth 16384

noncomputable section

namespace Cert.KernelIdeal.Own

open Cert.KernelIdeal Idealize.ShloMosaic
open Cert.ReferenceIdeal.Own (sumAll meanAll cent covOf apply4 refAt)

/-- A real sum over the batch and the two spatial axes. -/
def rsum (f : Fin 16 → Fin 256 → Fin 256 → ℝ) : ℝ := ∑ b, ∑ h, ∑ w, f b h w

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over all positions of reals is real. -/
theorem sumAll_coe (f : Fin 16 → Fin 256 → Fin 256 → ℝ) : sumAll (fun b h w => (f b h w : EReal)) = (rsum f : EReal) := by
  unfold sumAll rsum
  simp only [coe_sum]

/-- The scale of the statistics is 2^-20. -/
theorem bits_inv : Ideal.ofBits .f32 0x35800000#32 = ((1 / 1048576 : ℝ) : EReal) := by
  simp [Ideal.ofBits, Ideal.ieee, -EReal.coe_mul]
  norm_num

/-- The divisor of the reference's means is 2^20. -/
theorem bits_n : Ideal.ofBits .f32 0x49800000#32 = ((1048576 : ℝ) : EReal) := by
  simp [Ideal.ofBits, Ideal.ieee, -EReal.coe_mul]
  norm_num

/-- The stabilizer is a positive real. -/
theorem bits_eps : ∃ ε : ℝ, 0 < ε ∧ Ideal.ofBits .f32 0x38D1B717#32 = (ε : EReal) := by
  refine ⟨(13743895 : ℝ) / 2 ^ 37, by norm_num, ?_⟩
  simp [Ideal.ofBits, Ideal.ieee, -EReal.coe_mul]
  norm_num

/-- A real mean. -/
theorem meanAll_coe (f : Fin 16 → Fin 256 → Fin 256 → ℝ) : meanAll (fun b h w => (f b h w : EReal)) = ((rsum f / 1048576 : ℝ) : EReal) := by
  unfold meanAll
  rw [sumAll_coe, bits_n, div_real rfl rfl (by norm_num)]

/-- The two halves of an image's rows make all of them. -/
theorem two_halves (F : Fin 256 → EReal) :
    (∑ h : Fin 128, F ⟨h.val, by omega⟩) + ∑ h : Fin 128, F ⟨128 + h.val, by omega⟩ = ∑ h, F h := by
  have := Fin.sum_univ_add (a := 128) (b := 128) F
  exact this.symm

/-- The totals of the partial sums are the sums over all positions. -/
theorem total_partialOf (x : Vec Ideal S16x64x256x256 .f32) (k : Fin 14) (d : Fin 16) :
    total (partialOf x) k d = sumAll fun b h w => stat (fun q => x (ix4 b (chan q d) h w)) k := by
  have e : ∀ (w : Fin 256) (b : Fin 16), partialOf x (ix4 b k d w) = ∑ h : Fin 256, stat (fun q => x (ix4 b (chan q d) h w)) k := fun w b =>
    two_halves fun h => stat (fun q => x (ix4 b (chan q d) h w)) k
  unfold total sumAll
  simp only [e]
  rw [Finset.sum_comm]
  exact Finset.sum_congr rfl fun b _ => Finset.sum_comm

/-- The statistic of a component's sum. -/
theorem stat_mean (y : Fin 4 → EReal) (a : Fin 4) : stat y (meanIdx a) = y a := by
  fin_cases a <;> rfl

/-- The statistic of a product of components. -/
theorem stat_pair (y : Fin 4 → EReal) (a b : Fin 4) : stat y (pairIdx a b) = y a * y b := by
  fin_cases a <;> fin_cases b <;> first | rfl | exact mul_comm _ _

section data

variable {x : Vec Ideal S16x64x256x256 .f32} {d : Fin 16} {f : Fin 4 → Fin 16 → Fin 256 → Fin 256 → ℝ}
variable (hf : ∀ q b h w, x (ix4 b (chan q d) h w) = (f q b h w : EReal))

include hf

/-- The means of real data. -/
theorem meanOf_coe (a : Fin 4) : meanOf (partialOf x) d a = ((rsum (f a) / 1048576 : ℝ) : EReal) := by
  unfold meanOf scaled
  rw [total_partialOf]
  simp only [stat_mean, hf]
  rw [sumAll_coe, bits_inv, ← EReal.coe_mul, mul_one_div]

/-- The covariances of real data, as the kernel computes them. -/
theorem rawCov_coe (a b : Fin 4) : rawCov (partialOf x) d a b
    = ((rsum (fun i h w => f a i h w * f b i h w) / 1048576 - rsum (f a) / 1048576 * (rsum (f b) / 1048576) : ℝ) : EReal) := by
  unfold rawCov scaled
  rw [total_partialOf, meanOf_coe hf, meanOf_coe hf]
  simp only [stat_pair, hf, ← EReal.coe_mul]
  rw [sumAll_coe, bits_inv, ← EReal.coe_mul, mul_one_div, ← EReal.coe_sub]

/-- Centred real data. -/
theorem cent_coe (q : Fin 4) (b : Fin 16) (h w : Fin 256) : cent x d q b h w = ((f q b h w - rsum (f q) / 1048576 : ℝ) : EReal) := by
  unfold cent
  simp only [hf]
  rw [meanAll_coe, ← EReal.coe_sub]

/-- The covariances of real data, as the reference computes them. -/
theorem covOf_coe (a b : Fin 4) : covOf x d a b
    = ((rsum (fun i h w => (f a i h w - rsum (f a) / 1048576) * (f b i h w - rsum (f b) / 1048576)) / 1048576 : ℝ) : EReal) := by
  unfold covOf
  simp only [cent_coe hf, ← EReal.coe_mul]
  rw [meanAll_coe]

end data

/-- Sums over all positions are linear. -/
theorem rsum_add (f g : Fin 16 → Fin 256 → Fin 256 → ℝ) : rsum (fun b h w => f b h w + g b h w) = rsum f + rsum g := by
  simp only [rsum, Finset.sum_add_distrib]

/-- A factor comes out of a sum over all positions. -/
theorem rsum_mul (c : ℝ) (f : Fin 16 → Fin 256 → Fin 256 → ℝ) : rsum (fun b h w => c * f b h w) = c * rsum f := by
  simp only [rsum, Finset.mul_sum]

/-- The sum of a constant over all positions. -/
theorem rsum_const (c : ℝ) : rsum (fun _ _ _ => c) = 1048576 * c := by
  simp only [rsum, Finset.sum_const, Finset.card_univ, Fintype.card_fin, nsmul_eq_mul]
  norm_num
  ring

/-- A sum of squares is not negative. -/
theorem rsum_sq (f : Fin 16 → Fin 256 → Fin 256 → ℝ) : 0 ≤ rsum (fun b h w => f b h w * f b h w) :=
  Finset.sum_nonneg fun _ _ => Finset.sum_nonneg fun _ _ => Finset.sum_nonneg fun _ _ => mul_self_nonneg _

/-- The mean product of centred data is the mean product less the product of the means. -/
theorem cov_eq (f g : Fin 16 → Fin 256 → Fin 256 → ℝ) :
    rsum (fun i h w => (f i h w - rsum f / 1048576) * (g i h w - rsum g / 1048576)) / 1048576
      = rsum (fun i h w => f i h w * g i h w) / 1048576 - rsum f / 1048576 * (rsum g / 1048576) := by
  have e : (fun i h w => (f i h w - rsum f / 1048576) * (g i h w - rsum g / 1048576))
      = fun i h w => f i h w * g i h w + ((-(rsum g / 1048576)) * f i h w + ((-(rsum f / 1048576)) * g i h w + rsum f / 1048576 * (rsum g / 1048576))) := by
    funext i h w; ring
  rw [e, rsum_add, rsum_add, rsum_add, rsum_mul, rsum_mul, rsum_const]
  ring

/-- A covariance matrix with a stabilizer is positive definite. -/
theorem quad_cov (u : Fin 4 → Fin 16 → Fin 256 → Fin 256 → ℝ) (ε : ℝ) (v : Fin 4 → ℝ) :
    ε * ∑ a, v a * v a ≤ quad (fun a b => if a = b then rsum (fun i h w => u a i h w * u b i h w) / 1048576 + ε else rsum (fun i h w => u a i h w * u b i h w) / 1048576) v := by
  have hsq := rsum_sq fun i h w => v 0 * u 0 i h w + v 1 * u 1 i h w + v 2 * u 2 i h w + v 3 * u 3 i h w
  have e : (fun i h w => (v 0 * u 0 i h w + v 1 * u 1 i h w + v 2 * u 2 i h w + v 3 * u 3 i h w) * (v 0 * u 0 i h w + v 1 * u 1 i h w + v 2 * u 2 i h w + v 3 * u 3 i h w))
      = fun i h w => (v 0 * v 0) * (u 0 i h w * u 0 i h w) + ((v 0 * v 1) * (u 0 i h w * u 1 i h w) + ((v 0 * v 2) * (u 0 i h w * u 2 i h w) + ((v 0 * v 3) * (u 0 i h w * u 3 i h w)
        + ((v 1 * v 0) * (u 1 i h w * u 0 i h w) + ((v 1 * v 1) * (u 1 i h w * u 1 i h w) + ((v 1 * v 2) * (u 1 i h w * u 2 i h w) + ((v 1 * v 3) * (u 1 i h w * u 3 i h w)
        + ((v 2 * v 0) * (u 2 i h w * u 0 i h w) + ((v 2 * v 1) * (u 2 i h w * u 1 i h w) + ((v 2 * v 2) * (u 2 i h w * u 2 i h w) + ((v 2 * v 3) * (u 2 i h w * u 3 i h w)
        + ((v 3 * v 0) * (u 3 i h w * u 0 i h w) + ((v 3 * v 1) * (u 3 i h w * u 1 i h w) + ((v 3 * v 2) * (u 3 i h w * u 2 i h w) + (v 3 * v 3) * (u 3 i h w * u 3 i h w))))))))))))))) := by
    funext i h w; ring
  rw [e] at hsq
  simp only [rsum_add, rsum_mul] at hsq
  unfold quad
  simp only [Fin.sum_univ_four, Fin.isValue, reduceIte, Fin.reduceEq, if_true, if_false]
  linarith

/-- The bias enters last: a real sum against a bias less real shifts. -/
theorem shift_eq (A a0 a1 a2 a3 B : ℝ) (β : EReal) (h : A - a0 - a1 - a2 - a3 = B) :
    (A : EReal) + (β - (a0 : EReal) - (a1 : EReal) - (a2 : EReal) - (a3 : EReal)) = (B : EReal) + β := by
  have e : (β - (a0 : EReal) - (a1 : EReal) - (a2 : EReal) - (a3 : EReal)) = β + ((-a0 - a1 - a2 - a3 : ℝ) : EReal) := by
    have e' : (-a0 - a1 - a2 - a3 : ℝ) = -a0 + -a1 + -a2 + -a3 := by ring
    rw [e', EReal.coe_add, EReal.coe_add, EReal.coe_add, EReal.coe_neg, EReal.coe_neg, EReal.coe_neg, EReal.coe_neg]
    simp only [sub_eq_add_neg, add_assoc]
  rw [e, add_left_comm, ← EReal.coe_add, add_comm]
  exact congrArg (fun r : ℝ => (r : EReal) + β) (by rw [← h]; ring)

/-- The product matrix applied to real data and shifted is the two matrices applied to the centred data, and the bias. -/
theorem formulas_eq {G W : Fin 4 → Fin 4 → EReal} {G' W' : Fin 4 → Fin 4 → ℝ} (hG : ∀ a b, G a b = (G' a b : EReal)) (hW : ∀ a b, W a b = (W' a b : EReal))
    (hs : ∀ a b, W a b = W b a)
    {X μ : Fin 4 → EReal} {X' μ' : Fin 4 → ℝ} (hX : ∀ a, X a = (X' a : EReal)) (hμ : ∀ a, μ a = (μ' a : EReal)) (β : EReal) (q : Fin 4) :
    X 0 * coeff G W q 0 + X 1 * coeff G W q 1 + X 2 * coeff G W q 2 + X 3 * coeff G W q 3 + offset G W μ β q
      = apply4 G (apply4 W fun p => ((X' p - μ' p : ℝ) : EReal)) q + β := by
  have hc : ∀ p, coeff G W q p = ((G' q 0 * W' 0 p + G' q 1 * W' 1 p + G' q 2 * W' 2 p + G' q 3 * W' 3 p : ℝ) : EReal) := fun p => by
    unfold coeff
    simp only [hG, hW]
    norm_cast
  have ha : ∀ s, apply4 W (fun p => ((X' p - μ' p : ℝ) : EReal)) s
      = ((W' s 0 * (X' 0 - μ' 0) + W' s 1 * (X' 1 - μ' 1) + W' s 2 * (X' 2 - μ' 2) + W' s 3 * (X' 3 - μ' 3) : ℝ) : EReal) := fun s => by
    unfold apply4
    simp only [hW]
    norm_cast
  have hb : apply4 G (apply4 W fun p => ((X' p - μ' p : ℝ) : EReal)) q
      = ((G' q 0 * (W' 0 0 * (X' 0 - μ' 0) + W' 0 1 * (X' 1 - μ' 1) + W' 0 2 * (X' 2 - μ' 2) + W' 0 3 * (X' 3 - μ' 3))
        + G' q 1 * (W' 1 0 * (X' 0 - μ' 0) + W' 1 1 * (X' 1 - μ' 1) + W' 1 2 * (X' 2 - μ' 2) + W' 1 3 * (X' 3 - μ' 3))
        + G' q 2 * (W' 2 0 * (X' 0 - μ' 0) + W' 2 1 * (X' 1 - μ' 1) + W' 2 2 * (X' 2 - μ' 2) + W' 2 3 * (X' 3 - μ' 3))
        + G' q 3 * (W' 3 0 * (X' 0 - μ' 0) + W' 3 1 * (X' 1 - μ' 1) + W' 3 2 * (X' 2 - μ' 2) + W' 3 3 * (X' 3 - μ' 3)) : ℝ) : EReal) := by
    unfold apply4 at ha ⊢
    rw [ha, ha, ha, ha]
    simp only [hG]
    norm_cast
  unfold offset
  rw [hb, hc, hc, hc, hc, hX, hX, hX, hX, hμ, hμ, hμ, hμ]
  simp only [← EReal.coe_mul, ← EReal.coe_add]
  exact shift_eq _ _ _ _ _ _ β (by ring)

end Cert.KernelIdeal.Own

end
-- ==== Proof.Val0.lean ====
/- The statistics call, read at an index: what one point leaves in its block, and the partial sums after the call. -/
module

public import proofs.«01_k».proof.Proof.Frame0
public import proofs.«01_k».proof.Proof.Spec
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem
open Idealize.ShloMosaic.Pipeline (Dat Cfg Window)

/-- One point's sums: statistic `k` of group `d` at lane `w`, over the 128 rows of the block. -/
def rowSum (X : Vec Ideal S1x64x128x256 .f32) (k : Fin 14) (d : Fin 16) (w : Fin 256) : EReal :=
  ∑ h : Fin 128, stat (fun q => X (ix4 0 (chan q d) h w)) k

/-- The channels of component 0. -/
theorem chan_0 (d : Fin 16) (h : d.val < 64) : (⟨d.val, h⟩ : Fin 64) = chan 0 d := Fin.ext (by simp [chan])
/-- The channels of component 1. -/
theorem chan_1 (d : Fin 16) (h : 16 + d.val < 64) : (⟨16 + d.val, h⟩ : Fin 64) = chan 1 d := Fin.ext (by simp [chan])
/-- The channels of component 2. -/
theorem chan_2 (d : Fin 16) (h : 32 + d.val < 64) : (⟨32 + d.val, h⟩ : Fin 64) = chan 2 d := Fin.ext (by simp [chan])
/-- The channels of component 3. -/
theorem chan_3 (d : Fin 16) (h : 48 + d.val < 64) : (⟨48 + d.val, h⟩ : Fin 64) = chan 3 d := Fin.ext (by simp [chan])

/-- At the first half of an image the block is left holding that half's sums. -/
theorem out0_A_1_apply (c : Dev nD) (i : grid0.Coords) (arg2 : Memref sig .tc .vmem S1x64x128x256 .f32) (harg2 : arg2.IsWhole) (arg3 : Memref sig .tc .vmem S1x14x16x256 .f32) (harg3 : arg3.IsWhole) (hc0 : cond0_0 i) (hc1 : ¬cond0_1 i)
    (X : Vec Ideal S1x64x128x256 .f32) (k : Fin 14) (d : Fin 16) (w : Fin 256) :
    out0_A_1 c i arg2 harg2 arg3 harg3 hc0 hc1 X (ix4 0 k d w) = rowSum X k d w := by
  frame_out
  canon_tiles x h
  all_goals
    idx_vars x
    obtain rfl : d = x2 := Fin.ext h2
    obtain rfl : w = x3 := Fin.ext h3
    obtain rfl : x1 = 0 := Subsingleton.elim _ _
    obtain ⟨k, hk⟩ := k
    simp only [Fin.val_zero, Nat.add_zero] at h1
    subst h1
    open_payloads
    pointwise
    simp only [chan_0, chan_1, chan_2, chan_3]
    rfl

/-- At the second half of an image that half's sums are added to what the block held. -/
theorem out0_B_1_apply (c : Dev nD) (i : grid0.Coords) (arg2 : Memref sig .tc .vmem S1x64x128x256 .f32) (harg2 : arg2.IsWhole) (arg3 : Memref sig .tc .vmem S1x14x16x256 .f32) (harg3 : arg3.IsWhole) (hc0 : ¬cond0_0 i) (hc1 : cond0_1 i)
    (X : Vec Ideal S1x64x128x256 .f32) (P : Vec Ideal S1x14x16x256 .f32) (k : Fin 14) (d : Fin 16) (w : Fin 256) :
    out0_B_1 c i arg2 harg2 arg3 harg3 hc0 hc1 X P (ix4 0 k d w) = P (ix4 0 k d w) + rowSum X k d w := by
  frame_out
  canon_tiles x h
  all_goals
    idx_vars x
    obtain rfl : d = x2 := Fin.ext h2
    obtain rfl : w = x3 := Fin.ext h3
    obtain rfl : x1 = 0 := Subsingleton.elim _ _
    obtain ⟨k, hk⟩ := k
    simp only [Fin.val_zero, Nat.add_zero] at h1
    subst h1
    open_payloads
    pointwise
    simp only [chan_0, chan_1, chan_2, chan_3]
    rfl

/-- Point `t` reads image `t / 2`, its half `t % 2`. -/
theorem index0_0 : ∀ t : Fin cfg0.N, win0_0.index t = ![t.val / 2, 0, t.val % 2, 0] :=
  (by decide +kernel : ∀ t : Fin grid0.N, _)

/-- Point `t` accumulates into the block of image `t / 2`. -/
theorem index0_1 : ∀ t : Fin cfg0.N, win0_1.index t = ![t.val / 2, 0, 0, 0] :=
  (by decide +kernel : ∀ t : Fin grid0.N, _)

variable (V : (c : Dev nD) → (b : Ref sig .tc) → Buf (Elt Ideal) ((c : Thread nD τ).loc b))

/-- The block that point `t` reads, at its coordinates in the whole array. -/
theorem iblk0_apply (c : Dev nD) (t : Fin cfg0.N) (ch : Fin 64) (h : Fin 128) (w : Fin 256) :
    iblk0 V c 0 t (ix4 0 ch h w)
      = V c main_arg0 (ix4 ⟨t.val / 2, by have := t.isLt; have : cfg0.N = 32 := N_0; omega⟩ ch ⟨128 * (t.val % 2) + h.val, by omega⟩ w) := by
  blk_ext [iblk0, index0_0]

/-- At the second half of image `b` the block holds the sums of both halves. -/
theorem outsAt0_apply (c : Dev nD) (t : Fin cfg0.N) (b : Fin 16) (ht : t.val = 2 * b.val + 1) (k : Fin 14) (d : Fin 16) (w : Fin 256) :
    outsAt0 V c t.val t.isLt (ix4 0 k d w) = partialOf (V c main_arg0) (ix4 b k d w) := by
  have hN : cfg0.N = 32 := N_0
  have hp : t.val - 1 < cfg0.N := by omega
  have h1 : t.val % 2 = 1 := by omega
  have h0 : ¬ t.val % 2 = 0 := by omega
  have e0 : (t.val - 1) % 2 = 0 := by omega
  have e1 : ¬ (t.val - 1) % 2 = 1 := by omega
  have p : ∀ h : b.val < 16, (⟨b.val, h⟩ : Fin 16) = b := fun _ => rfl
  rw [outsAt0_B V c t h0 h1, out0_B_1_apply, outsAt0_A V c ⟨t.val - 1, hp⟩ e0 e1, out0_A_1_apply]
  unfold rowSum partialOf
  simp only [iblk0_apply, e0, h1, (by omega : (t.val - 1) / 2 = b.val), (by omega : t.val / 2 = b.val), Nat.mul_zero, Nat.zero_add, Nat.mul_one, p]
  rfl

/-- After the statistics call its result holds the partial sums of the argument. -/
theorem arr0 (c : Dev nD) : (dat0 V c).arrAt 1 cfg0.N = partialOf (V c main_arg0) := by
  refine (dat0 V c).arrAt_eq_of_covers 1 _ (by decide +kernel) fun t hf y => ?_
  have h1 := (flush0_1 t).mp hf
  blk_simp
  rw [after0_1]
  obtain ⟨z, k, d, w, rfl⟩ : ∃ (z : Fin 1) (k : Fin 14) (d : Fin 16) (w : Fin 256), y = ix4 z k d w := ⟨y 0, y 1, y 2, y 3, eq_ix4 y⟩
  obtain rfl : z = 0 := Subsingleton.elim _ _
  have hN : cfg0.N = 32 := N_0
  have ht : t.val < cfg0.N := t.isLt
  have hb : t.val / 2 < 16 := by omega
  have e : ((win0_1.blk t).view.emb (ix4 0 k d w) : S16x14x16x256.Idx) = ix4 ⟨t.val / 2, hb⟩ k d w := by
    blk_ext [index0_1]
  rw [e]
  exact outsAt0_apply V c t ⟨t.val / 2, hb⟩ (by show t.val = 2 * (t.val / 2) + 1; omega) k d w

end Cert.KernelIdeal.Own

end
-- ==== Proof.Stages.lean ====
/- The preparation call stage by stage: totals, means, covariances and factor, at one group. -/
module

public import proofs.«01_k».proof.Proof.Frame1
public import proofs.«01_k».proof.Proof.Spec
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem
open Idealize.ShloMosaic.Pipeline (Dat Cfg Window)

section stages

variable (X : Vec Ideal S16x14x16x256 .f32) (d : Fin 16)

/-- The totals over images and lanes. -/
theorem pay1_at (k : Fin 14) : k1_pay1 X (ix2 k d) = total X k d := by
  unfold k1_pay1
  pointwise
  rw [total]

/-- A mean, with the number of its statistic. -/
theorem meanOf_eq (a : Fin 4) (k : Fin 14) (h : meanIdx a = k) : meanOf X d a = total X k d * Ideal.ofBits .f32 0x35800000#32 := by
  subst h; rfl

/-- A covariance, with the number of its statistic. -/
theorem rawCov_eq (a b : Fin 4) (k : Fin 14) (h : pairIdx a b = k) :
    rawCov X d a b = total X k d * Ideal.ofBits .f32 0x35800000#32 - meanOf X d a * meanOf X d b := by
  subst h; rfl

/-- On the diagonal the stabilizer is added. -/
theorem stab_diag (C : Fin 4 → Fin 4 → EReal) (a : Fin 4) : stab C a a = C a a + Ideal.ofBits .f32 0x38D1B717#32 := if_pos rfl
/-- Off the diagonal nothing is added. -/
theorem stab_off (C : Fin 4 → Fin 4 → EReal) {a b : Fin 4} (h : a ≠ b) : stab C a b = C a b := if_neg h

/-- A row of the totals, scaled. -/
theorem mean_at {T : FVec Ideal S14x16 .f32} (hT : ∀ k, T (ix2 k d) = total X k d) (a : Fin 4) (k : Fin 14) (hk : meanIdx a = k)
    (hs : S14x16.Slices ![k.val, 0] S1x16) :
    mulf (extractStridedSlice S1x16 ![k.val, 0] T hs) (broadcast S1x16 (Scalar.ofBits .f32 0x35800000#32)) (ix2 0 d) = meanOf X d a := by
  pointwise
  rw [hT, meanOf_eq X d a k hk]

/-- A row of the totals, scaled, less a product of two means. -/
theorem cov_at {T : FVec Ideal S14x16 .f32} {u v : FVec Ideal S1x16 .f32} (hT : ∀ k, T (ix2 k d) = total X k d) {a b : Fin 4}
    (hu : u (ix2 0 d) = meanOf X d a) (hv : v (ix2 0 d) = meanOf X d b) (k : Fin 14) (hk : pairIdx a b = k) (hs : S14x16.Slices ![k.val, 0] S1x16) :
    subf (mulf (extractStridedSlice S1x16 ![k.val, 0] T hs) (broadcast S1x16 (Scalar.ofBits .f32 0x35800000#32))) (mulf u v) (ix2 0 d) = rawCov X d a b := by
  pointwise
  rw [hT, hu, hv, rawCov_eq X d a b k hk]

/-- The same on the diagonal, with the stabilizer. -/
theorem var_at {T : FVec Ideal S14x16 .f32} {u : FVec Ideal S1x16 .f32} (hT : ∀ k, T (ix2 k d) = total X k d) {a : Fin 4}
    (hu : u (ix2 0 d) = meanOf X d a) (k : Fin 14) (hk : pairIdx a a = k) (hs : S14x16.Slices ![k.val, 0] S1x16) :
    addf (subf (mulf (extractStridedSlice S1x16 ![k.val, 0] T hs) (broadcast S1x16 (Scalar.ofBits .f32 0x35800000#32))) (mulf u u))
      (broadcast S1x16 (Scalar.ofBits .f32 0x38D1B717#32)) (ix2 0 d) = stab (rawCov X d) a a := by
  pointwise
  rw [hT, hu, stab_diag, rawCov_eq X d a a k hk]

/-- The mean of the first component. -/
theorem pay2_at : k1_pay2 X (ix2 0 d) = meanOf X d 0 :=
  mean_at X d (pay1_at X d) 0 0 rfl slices_S14x16_o0_0_S1x16

/-- The mean of the second component. -/
theorem pay3_at : k1_pay3 X (ix2 0 d) = meanOf X d 1 :=
  mean_at X d (pay1_at X d) 1 1 rfl slices_S14x16_o1_0_S1x16

/-- The mean of the third component. -/
theorem pay4_at : k1_pay4 X (ix2 0 d) = meanOf X d 2 :=
  mean_at X d (pay1_at X d) 2 2 rfl slices_S14x16_o2_0_S1x16

/-- The mean of the fourth component. -/
theorem pay5_at : k1_pay5 X (ix2 0 d) = meanOf X d 3 :=
  mean_at X d (pay1_at X d) 3 3 rfl slices_S14x16_o3_0_S1x16

/-- The stabilized variance of the first component. -/
theorem pay6_at : k1_pay6 X (ix2 0 d) = stab (rawCov X d) 0 0 :=
  var_at X d (pay1_at X d) (pay2_at X d) 4 rfl slices_S14x16_o4_0_S1x16

/-- The covariance of the first and second components. -/
theorem pay7_at : k1_pay7 X (ix2 0 d) = stab (rawCov X d) 0 1 :=
  (cov_at X d (pay1_at X d) (pay2_at X d) (pay3_at X d) 5 rfl slices_S14x16_o5_0_S1x16).trans (stab_off _ (by decide)).symm

/-- The covariance of the first and third components. -/
theorem pay8_at : k1_pay8 X (ix2 0 d) = stab (rawCov X d) 0 2 :=
  (cov_at X d (pay1_at X d) (pay2_at X d) (pay4_at X d) 6 rfl slices_S14x16_o6_0_S1x16).trans (stab_off _ (by decide)).symm

/-- The covariance of the first and fourth components. -/
theorem pay9_at : k1_pay9 X (ix2 0 d) = stab (rawCov X d) 0 3 :=
  (cov_at X d (pay1_at X d) (pay2_at X d) (pay5_at X d) 7 rfl slices_S14x16_o7_0_S1x16).trans (stab_off _ (by decide)).symm

/-- The variance of the second component, not yet stabilized. -/
theorem pay10_at : k1_pay10 X (ix2 0 d) = rawCov X d 1 1 :=
  cov_at X d (pay1_at X d) (pay3_at X d) (pay3_at X d) 8 rfl slices_S14x16_o8_0_S1x16

/-- The stabilized variance of the last component. -/
theorem pay11_at : k1_pay11 (k1_pay1 X) (k1_pay5 X) (ix2 0 d) = stab (rawCov X d) 3 3 :=
  var_at X d (pay1_at X d) (pay5_at X d) 13 rfl slices_S14x16_o13_0_S1x16

section factor

variable {X d} {T : FVec Ideal S14x16 .f32} {m1 m2 m3 c00 c01 c02 c03 c11 c33 : FVec Ideal S1x16 .f32}

/-- The factor entry (0,0), from the stages before it. -/
theorem pay12_of (h00 : c00 (ix2 0 d) = stab (rawCov X d) 0 0) :
    k1_pay12 c00 (ix2 0 d) = w00 (stab (rawCov X d)) := by
  unfold k1_pay12
  pointwise
  simp only [h00]
  rw [w00]

/-- The factor entry (0,1), from the stages before it. -/
theorem pay13_of (h00 : c00 (ix2 0 d) = stab (rawCov X d) 0 0) (h01 : c01 (ix2 0 d) = stab (rawCov X d) 0 1) :
    k1_pay13 c00 c01 (ix2 0 d) = w01 (stab (rawCov X d)) := by
  unfold k1_pay13
  pointwise
  simp only [h01, pay12_of h00]
  rw [w01]

/-- The factor entry (1,1), from the stages before it. -/
theorem pay14_of (h00 : c00 (ix2 0 d) = stab (rawCov X d) 0 0) (h01 : c01 (ix2 0 d) = stab (rawCov X d) 0 1) (h11 : c11 (ix2 0 d) = rawCov X d 1 1) :
    k1_pay14 c00 c01 c11 (Ideal.ofBits .f32 0x38D1B717#32) (ix2 0 d) = w11 (stab (rawCov X d)) := by
  unfold k1_pay14
  pointwise
  simp only [h11, pay13_of h00 h01]
  rw [w11, stab_diag]

/-- The factor entry (0,2), from the stages before it. -/
theorem pay15_of (h00 : c00 (ix2 0 d) = stab (rawCov X d) 0 0) (h02 : c02 (ix2 0 d) = stab (rawCov X d) 0 2) :
    k1_pay15 c00 c02 (ix2 0 d) = w02 (stab (rawCov X d)) := by
  unfold k1_pay15
  pointwise
  simp only [h02, pay12_of h00]
  rw [w02]

/-- The factor entry (1,2), from the stages before it. -/
theorem pay16_of (hT : ∀ k, T (ix2 k d) = total X k d) (h1 : m1 (ix2 0 d) = meanOf X d 1) (h2 : m2 (ix2 0 d) = meanOf X d 2) (h00 : c00 (ix2 0 d) = stab (rawCov X d) 0 0) (h01 : c01 (ix2 0 d) = stab (rawCov X d) 0 1) (h02 : c02 (ix2 0 d) = stab (rawCov X d) 0 2) (h11 : c11 (ix2 0 d) = rawCov X d 1 1) :
    k1_pay16 T m1 m2 c00 c01 c02 c11 (Ideal.ofBits .f32 0x38D1B717#32) (ix2 0 d) = w12 (stab (rawCov X d)) := by
  unfold k1_pay16
  pointwise
  simp only [hT, h1, h2, pay13_of h00 h01, pay14_of h00 h01 h11, pay15_of h00 h02]
  rw [w12, stab_off _ (by decide : (1 : Fin 4) ≠ 2), rawCov_eq X d 1 2 9 rfl]

/-- The factor entry (2,2), from the stages before it. -/
theorem pay17_of (hT : ∀ k, T (ix2 k d) = total X k d) (h1 : m1 (ix2 0 d) = meanOf X d 1) (h2 : m2 (ix2 0 d) = meanOf X d 2) (h00 : c00 (ix2 0 d) = stab (rawCov X d) 0 0) (h01 : c01 (ix2 0 d) = stab (rawCov X d) 0 1) (h02 : c02 (ix2 0 d) = stab (rawCov X d) 0 2) (h11 : c11 (ix2 0 d) = rawCov X d 1 1) :
    k1_pay17 T m1 m2 c00 c01 c02 c11 (Ideal.ofBits .f32 0x38D1B717#32) (ix2 0 d) = w22 (stab (rawCov X d)) := by
  unfold k1_pay17
  pointwise
  simp only [hT, h2, pay15_of h00 h02, pay16_of hT h1 h2 h00 h01 h02 h11]
  rw [w22, stab_diag, rawCov_eq X d 2 2 11 rfl]

/-- The factor entry (0,3), from the stages before it. -/
theorem pay18_of (h00 : c00 (ix2 0 d) = stab (rawCov X d) 0 0) (h03 : c03 (ix2 0 d) = stab (rawCov X d) 0 3) :
    k1_pay18 c00 c03 (ix2 0 d) = w03 (stab (rawCov X d)) := by
  unfold k1_pay18
  pointwise
  simp only [h03, pay12_of h00]
  rw [w03]

/-- The factor entry (1,3), from the stages before it. -/
theorem pay19_of (hT : ∀ k, T (ix2 k d) = total X k d) (h1 : m1 (ix2 0 d) = meanOf X d 1) (h3 : m3 (ix2 0 d) = meanOf X d 3) (h00 : c00 (ix2 0 d) = stab (rawCov X d) 0 0) (h01 : c01 (ix2 0 d) = stab (rawCov X d) 0 1) (h03 : c03 (ix2 0 d) = stab (rawCov X d) 0 3) (h11 : c11 (ix2 0 d) = rawCov X d 1 1) :
    k1_pay19 T m1 m3 c00 c01 c03 c11 (Ideal.ofBits .f32 0x38D1B717#32) (ix2 0 d) = w13 (stab (rawCov X d)) := by
  unfold k1_pay19
  pointwise
  simp only [hT, h1, h3, pay13_of h00 h01, pay14_of h00 h01 h11, pay18_of h00 h03]
  rw [w13, stab_off _ (by decide : (1 : Fin 4) ≠ 3), rawCov_eq X d 1 3 10 rfl]

/-- The numerator of the factor entry (2,3). -/
theorem pay20_of (hT : ∀ k, T (ix2 k d) = total X k d) (h1 : m1 (ix2 0 d) = meanOf X d 1) (h2 : m2 (ix2 0 d) = meanOf X d 2) (h3 : m3 (ix2 0 d) = meanOf X d 3) (h00 : c00 (ix2 0 d) = stab (rawCov X d) 0 0) (h01 : c01 (ix2 0 d) = stab (rawCov X d) 0 1) (h02 : c02 (ix2 0 d) = stab (rawCov X d) 0 2) (h03 : c03 (ix2 0 d) = stab (rawCov X d) 0 3) (h11 : c11 (ix2 0 d) = rawCov X d 1 1) :
    k1_pay20 T m1 m2 m3 c00 c01 c02 c03 c11 (Ideal.ofBits .f32 0x38D1B717#32) (ix2 0 d) = (stab (rawCov X d)) 2 3 - (w12 (stab (rawCov X d)) * w13 (stab (rawCov X d)) + w02 (stab (rawCov X d)) * w03 (stab (rawCov X d))) := by
  unfold k1_pay20
  pointwise
  simp only [hT, h2, h3, pay15_of h00 h02, pay16_of hT h1 h2 h00 h01 h02 h11, pay18_of h00 h03, pay19_of hT h1 h3 h00 h01 h03 h11]
  rw [stab_off _ (by decide : (2 : Fin 4) ≠ 3), rawCov_eq X d 2 3 12 rfl]

/-- The factor entry (2,3), from the stages before it. -/
theorem pay21_of (hT : ∀ k, T (ix2 k d) = total X k d) (h1 : m1 (ix2 0 d) = meanOf X d 1) (h2 : m2 (ix2 0 d) = meanOf X d 2) (h3 : m3 (ix2 0 d) = meanOf X d 3) (h00 : c00 (ix2 0 d) = stab (rawCov X d) 0 0) (h01 : c01 (ix2 0 d) = stab (rawCov X d) 0 1) (h02 : c02 (ix2 0 d) = stab (rawCov X d) 0 2) (h03 : c03 (ix2 0 d) = stab (rawCov X d) 0 3) (h11 : c11 (ix2 0 d) = rawCov X d 1 1) :
    k1_pay21 (k1_pay17 T m1 m2 c00 c01 c02 c11 (Ideal.ofBits .f32 0x38D1B717#32)) (k1_pay20 T m1 m2 m3 c00 c01 c02 c03 c11 (Ideal.ofBits .f32 0x38D1B717#32)) (ix2 0 d) = w23 (stab (rawCov X d)) := by
  unfold k1_pay21
  pointwise
  simp only [pay20_of hT h1 h2 h3 h00 h01 h02 h03 h11, pay17_of hT h1 h2 h00 h01 h02 h11]
  rw [w23]

/-- The factor entry (3,3), from the stages before it. -/
theorem pay22_of (hT : ∀ k, T (ix2 k d) = total X k d) (h1 : m1 (ix2 0 d) = meanOf X d 1) (h2 : m2 (ix2 0 d) = meanOf X d 2) (h3 : m3 (ix2 0 d) = meanOf X d 3) (h00 : c00 (ix2 0 d) = stab (rawCov X d) 0 0) (h01 : c01 (ix2 0 d) = stab (rawCov X d) 0 1) (h02 : c02 (ix2 0 d) = stab (rawCov X d) 0 2) (h03 : c03 (ix2 0 d) = stab (rawCov X d) 0 3) (h11 : c11 (ix2 0 d) = rawCov X d 1 1) (h33 : c33 (ix2 0 d) = stab (rawCov X d) 3 3) :
    k1_pay22 c33 (k1_pay17 T m1 m2 c00 c01 c02 c11 (Ideal.ofBits .f32 0x38D1B717#32)) (k1_pay18 c00 c03) (k1_pay19 T m1 m3 c00 c01 c03 c11 (Ideal.ofBits .f32 0x38D1B717#32)) (k1_pay20 T m1 m2 m3 c00 c01 c02 c03 c11 (Ideal.ofBits .f32 0x38D1B717#32)) (ix2 0 d) = w33 (stab (rawCov X d)) := by
  unfold k1_pay22
  pointwise
  simp only [h33, pay18_of h00 h03, pay19_of hT h1 h3 h00 h01 h03 h11, pay21_of hT h1 h2 h3 h00 h01 h02 h03 h11]
  rw [w33]

end factor

/-- The factor entry (0,0). -/
theorem pay12_at : k1_pay12 (k1_pay6 X) (ix2 0 d) = w00 (stab (rawCov X d)) :=
  pay12_of (pay6_at X d)

/-- The factor entry (0,1). -/
theorem pay13_at : k1_pay13 (k1_pay6 X) (k1_pay7 X) (ix2 0 d) = w01 (stab (rawCov X d)) :=
  pay13_of (pay6_at X d) (pay7_at X d)

/-- The factor entry (1,1). -/
theorem pay14_at : k1_pay14 (k1_pay6 X) (k1_pay7 X) (k1_pay10 X) (FloatOps.ofBits .f32 0x38D1B717#32) (ix2 0 d) = w11 (stab (rawCov X d)) :=
  pay14_of (pay6_at X d) (pay7_at X d) (pay10_at X d)

/-- The factor entry (0,2). -/
theorem pay15_at : k1_pay15 (k1_pay6 X) (k1_pay8 X) (ix2 0 d) = w02 (stab (rawCov X d)) :=
  pay15_of (pay6_at X d) (pay8_at X d)

/-- The factor entry (1,2). -/
theorem pay16_at : k1_pay16 (k1_pay1 X) (k1_pay3 X) (k1_pay4 X) (k1_pay6 X) (k1_pay7 X) (k1_pay8 X) (k1_pay10 X) (FloatOps.ofBits .f32 0x38D1B717#32) (ix2 0 d) = w12 (stab (rawCov X d)) :=
  pay16_of (pay1_at X d) (pay3_at X d) (pay4_at X d) (pay6_at X d) (pay7_at X d) (pay8_at X d) (pay10_at X d)

/-- The factor entry (2,2). -/
theorem pay17_at : k1_pay17 (k1_pay1 X) (k1_pay3 X) (k1_pay4 X) (k1_pay6 X) (k1_pay7 X) (k1_pay8 X) (k1_pay10 X) (FloatOps.ofBits .f32 0x38D1B717#32) (ix2 0 d) = w22 (stab (rawCov X d)) :=
  pay17_of (pay1_at X d) (pay3_at X d) (pay4_at X d) (pay6_at X d) (pay7_at X d) (pay8_at X d) (pay10_at X d)

/-- The factor entry (0,3). -/
theorem pay18_at : k1_pay18 (k1_pay6 X) (k1_pay9 X) (ix2 0 d) = w03 (stab (rawCov X d)) :=
  pay18_of (pay6_at X d) (pay9_at X d)

/-- The factor entry (1,3). -/
theorem pay19_at : k1_pay19 (k1_pay1 X) (k1_pay3 X) (k1_pay5 X) (k1_pay6 X) (k1_pay7 X) (k1_pay9 X) (k1_pay10 X) (FloatOps.ofBits .f32 0x38D1B717#32) (ix2 0 d) = w13 (stab (rawCov X d)) :=
  pay19_of (pay1_at X d) (pay3_at X d) (pay5_at X d) (pay6_at X d) (pay7_at X d) (pay9_at X d) (pay10_at X d)

/-- The factor entry (2,3). -/
theorem pay21_at : k1_pay21 (k1_pay17 (k1_pay1 X) (k1_pay3 X) (k1_pay4 X) (k1_pay6 X) (k1_pay7 X) (k1_pay8 X) (k1_pay10 X) (FloatOps.ofBits .f32 0x38D1B717#32)) (k1_pay20 (k1_pay1 X) (k1_pay3 X) (k1_pay4 X) (k1_pay5 X) (k1_pay6 X) (k1_pay7 X) (k1_pay8 X) (k1_pay9 X) (k1_pay10 X) (FloatOps.ofBits .f32 0x38D1B717#32)) (ix2 0 d) = w23 (stab (rawCov X d)) :=
  pay21_of (pay1_at X d) (pay3_at X d) (pay4_at X d) (pay5_at X d) (pay6_at X d) (pay7_at X d) (pay8_at X d) (pay9_at X d) (pay10_at X d)

/-- The factor entry (3,3). -/
theorem pay22_at : k1_pay22 (k1_pay11 (k1_pay1 X) (k1_pay5 X)) (k1_pay17 (k1_pay1 X) (k1_pay3 X) (k1_pay4 X) (k1_pay6 X) (k1_pay7 X) (k1_pay8 X) (k1_pay10 X) (FloatOps.ofBits .f32 0x38D1B717#32)) (k1_pay18 (k1_pay6 X) (k1_pay9 X)) (k1_pay19 (k1_pay1 X) (k1_pay3 X) (k1_pay5 X) (k1_pay6 X) (k1_pay7 X) (k1_pay9 X) (k1_pay10 X) (FloatOps.ofBits .f32 0x38D1B717#32)) (k1_pay20 (k1_pay1 X) (k1_pay3 X) (k1_pay4 X) (k1_pay5 X) (k1_pay6 X) (k1_pay7 X) (k1_pay8 X) (k1_pay9 X) (k1_pay10 X) (FloatOps.ofBits .f32 0x38D1B717#32)) (ix2 0 d) = w33 (stab (rawCov X d)) :=
  pay22_of (pay1_at X d) (pay3_at X d) (pay4_at X d) (pay5_at X d) (pay6_at X d) (pay7_at X d) (pay8_at X d) (pay9_at X d) (pay10_at X d) (pay11_at X d)

end stages

end Cert.KernelIdeal.Own

end
-- ==== Proof.Val1.lean ====
/- The preparation call, read at an index: the parameters it leaves. -/
module

public import proofs.«01_k».proof.Proof.Frame1
public import proofs.«01_k».proof.Proof.Stages
public import Idealize.ShloMosaic.Lib.Pointwise
public import Idealize.ShloMosaic.Lib.Pipeline.ReadBack
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem
open Idealize.ShloMosaic.Pipeline (Dat Cfg Window)

/-- The parameters of every row and group. -/
def paramsOf (x0 : Vec Ideal S16x14x16x256 .f32) (x1 x2 x3 x4 x5 x6 x7 x8 x9 x10 : Vec Ideal S16 .f32) (x11 : Vec Ideal S64 .f32) : Vec Ideal S20x16 .f32 := fun i =>
  params (gammaOf x1 x2 x3 x4 x5 x6 x7 x8 x9 x10 (i 1)) (factor (stab (rawCov x0 (i 1)))) (meanOf x0 (i 1)) (fun q => x11 (ix1 (chan q (i 1)))) (i 0)

/-- A row vector made of a vector holds its entries. -/
theorem row_cast {α : Type} (v : S16.Idx → α) (h : S16.ShapeCasts S1x16) (d : Fin 16) : shapeCast S1x16 v h (ix2 0 d) = v (ix1 d) := by
  pointwise

/-- A cast of a row vector to its own shape changes nothing. -/
theorem row_self {α : Type} (v : S1x16.Idx → α) (h : S1x16.ShapeCasts S1x16) (d : Fin 16) : shapeCast S1x16 v h (ix2 0 d) = v (ix2 0 d) := by
  pointwise

/-- Part `q` of the bias at group `d`. -/
theorem bias_at (v : Vec Ideal S64 .f32) (q : Fin 4) (o : ℕ) (ho : o = 16 * q.val) (inb : ∀ a, (![o] : Fin 1 → ℕ) a + (![16] : Fin 1 → ℕ) a ≤ S64.size a) (d : Fin 16) :
    View.ld v (Rect.unit (s := S64) ![o] ![16] inb) (ix1 d) = v (ix1 (chan q d)) := by
  subst ho
  exact View.ld_unit_apply_of _ _ _ _ _ _ fun a => by obtain rfl : a = 0 := Subsingleton.elim _ _; rfl

section reload

variable {sp : Space} (v : View sig .tc sp S20x16 .f32)

/-- A row loaded right after it is stored is that row. -/
theorem reload_hit (o : ℕ) (inb inb' : ∀ a, (![o, 0] : Fin 2 → ℕ) a + (![1, 16] : Fin 2 → ℕ) a ≤ S20x16.size a) (x : (Rect.unit (s := S20x16) ![o, 0] ![1, 16] inb).shape.Idx → Elt Ideal .f32) (L : List (View.Piece (Elt Ideal) S20x16 .f32)) :
    v.readCov ((⟨Rect.unit (s := S20x16) ![o, 0] ![1, 16] inb, x⟩ : View.Piece (Elt Ideal) S20x16 .f32) :: L) (Rect.unit (s := S20x16) ![o, 0] ![1, 16] inb').toLoadRect = x :=
  View.readCov_cons_toLoadRect v _ x L

/-- Another row stored since does not matter. -/
theorem reload_skip (o o' : ℕ) (h : o ≠ o') (inb : ∀ a, (![o, 0] : Fin 2 → ℕ) a + (![1, 16] : Fin 2 → ℕ) a ≤ S20x16.size a) (inb' : ∀ a, (![o', 0] : Fin 2 → ℕ) a + (![1, 16] : Fin 2 → ℕ) a ≤ S20x16.size a)
    (x : (Rect.unit (s := S20x16) ![o, 0] ![1, 16] inb).shape.Idx → Elt Ideal .f32) (L : List (View.Piece (Elt Ideal) S20x16 .f32)) :
    v.readCov ((⟨Rect.unit (s := S20x16) ![o, 0] ![1, 16] inb, x⟩ : View.Piece (Elt Ideal) S20x16 .f32) :: L) (Rect.unit (s := S20x16) ![o', 0] ![1, 16] inb').toLoadRect
      = v.readCov L (Rect.unit (s := S20x16) ![o', 0] ![1, 16] inb').toLoadRect :=
  View.readCov_cons_of_disjoint v _ L _ (Rect.unit_disjoint (inb := inb) (inb' := inb') 0 (by show o + 1 ≤ o' ∨ o' + 1 ≤ o; omega))

end reload

set_option maxHeartbeats 8000000 in
/-- The preparation call leaves the parameters. -/
theorem out1_A_12_apply (c : Dev nD) (arg0 : Memref sig .tc .vmem S16x14x16x256 .f32) (harg0 : arg0.IsWhole) (arg1 : Memref sig .tc .vmem S16 .f32) (harg1 : arg1.IsWhole) (arg2 : Memref sig .tc .vmem S16 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S64 .f32) (harg11 : arg11.IsWhole) (arg12 : Memref sig .tc .vmem S20x16 .f32) (harg12 : arg12.IsWhole)
    (x0 : Vec Ideal S16x14x16x256 .f32) (x1 : Vec Ideal S16 .f32) (x2 : Vec Ideal S16 .f32) (x3 : Vec Ideal S16 .f32) (x4 : Vec Ideal S16 .f32) (x5 : Vec Ideal S16 .f32) (x6 : Vec Ideal S16 .f32) (x7 : Vec Ideal S16 .f32) (x8 : Vec Ideal S16 .f32) (x9 : Vec Ideal S16 .f32) (x10 : Vec Ideal S16 .f32) (x11 : Vec Ideal S64 .f32) (r : Fin 20) (d : Fin 16) :
    out1_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (ix2 r d)
      = paramsOf x0 x1 x2 x3 x4 x5 x6 x7 x8 x9 x10 x11 (ix2 r d) := by
  show _ = params (gammaOf x1 x2 x3 x4 x5 x6 x7 x8 x9 x10 d) (factor (stab (rawCov x0 d))) (meanOf x0 d) (fun q => x11 (ix1 (chan q d))) r
  frame_out
  canon_tiles y h
  all_goals
    idx_vars y
    obtain rfl : d = y1 := Fin.ext h1
    obtain rfl : y0 = 0 := Subsingleton.elim _ _
    obtain ⟨r, hr⟩ := r
    simp only [Fin.val_zero, Nat.add_zero] at h0
    subst h0
    try simp (disch := decide) only [reload_hit, reload_skip]
    simp only [k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64]
    simp only [addf_apply, mulf_apply, subf_apply, row_cast, row_self, bias_at x11 0 0 rfl, bias_at x11 1 16 rfl, bias_at x11 2 32 rfl, bias_at x11 3 48 rfl, pay2_at, pay3_at, pay4_at, pay5_at, pay12_at, pay13_at, pay14_at, pay15_at, pay16_at, pay17_at, pay18_at, pay19_at, pay21_at, pay22_at]
    first | rw [params_coeff _ _ _ _ _ 0 0 rfl] | rw [params_coeff _ _ _ _ _ 0 1 rfl] | rw [params_coeff _ _ _ _ _ 0 2 rfl] | rw [params_coeff _ _ _ _ _ 0 3 rfl] | rw [params_coeff _ _ _ _ _ 1 0 rfl] | rw [params_coeff _ _ _ _ _ 1 1 rfl] | rw [params_coeff _ _ _ _ _ 1 2 rfl] | rw [params_coeff _ _ _ _ _ 1 3 rfl] | rw [params_coeff _ _ _ _ _ 2 0 rfl] | rw [params_coeff _ _ _ _ _ 2 1 rfl] | rw [params_coeff _ _ _ _ _ 2 2 rfl] | rw [params_coeff _ _ _ _ _ 2 3 rfl] | rw [params_coeff _ _ _ _ _ 3 0 rfl] | rw [params_coeff _ _ _ _ _ 3 1 rfl] | rw [params_coeff _ _ _ _ _ 3 2 rfl] | rw [params_coeff _ _ _ _ _ 3 3 rfl] | rw [params_offset _ _ _ _ _ 0 rfl] | rw [params_offset _ _ _ _ _ 1 rfl] | rw [params_offset _ _ _ _ _ 2 rfl] | rw [params_offset _ _ _ _ _ 3 rfl]
  all_goals
    simp only [coeff, offset, gammaOf, factor, sym4_00, sym4_01, sym4_02, sym4_03, sym4_10, sym4_11, sym4_12, sym4_13, sym4_20, sym4_21, sym4_22, sym4_23, sym4_30, sym4_31, sym4_32, sym4_33]
    rfl

variable (V : (c : Dev nD) → (b : Ref sig .tc) → Buf (Elt Ideal) ((c : Thread nD τ).loc b))

/-- The call's only point reads all of the partial sums. -/
theorem index1_0 : ∀ t : Fin cfg1.N, win1_0.index t = ![0, 0, 0, 0] :=
  (by decide +kernel : ∀ t : Fin grid1.N, _)

/-- What the call reads of the partial sums is all of them. -/
theorem iblk1_0_eq (c : Dev nD) (t : Fin cfg1.N) : iblk1 V c 0 t = V c main_v0 := by
  funext y
  obtain ⟨b, k, d, w, rfl⟩ : ∃ (b : Fin 16) (k : Fin 14) (d : Fin 16) (w : Fin 256), y = ix4 b k d w := ⟨y 0, y 1, y 2, y 3, eq_ix4 y⟩
  show iblk1 V c 0 t (ix4 b k d w) = V c main_v0 (ix4 b k d w)
  blk_ext [iblk1, index1_0]

/-- The call's only point reads all of window 1. -/
theorem index1_1 : ∀ t : Fin cfg1.N, win1_1.index t = ![0] :=
  (by decide +kernel : ∀ t : Fin grid1.N, _)

/-- What the call reads of window 1 is the whole argument. -/
theorem iblk1_1_eq (c : Dev nD) (t : Fin cfg1.N) : iblk1 V c 1 t = V c main_arg1 := by
  funext y
  obtain ⟨d, rfl⟩ : ∃ d : Fin 16, y = ix1 d := ⟨y 0, eq_ix1 y⟩
  show iblk1 V c 1 t (ix1 d) = V c main_arg1 (ix1 d)
  blk_ext [iblk1, index1_1]

/-- The call's only point reads all of window 2. -/
theorem index1_2 : ∀ t : Fin cfg1.N, win1_2.index t = ![0] :=
  (by decide +kernel : ∀ t : Fin grid1.N, _)

/-- What the call reads of window 2 is the whole argument. -/
theorem iblk1_2_eq (c : Dev nD) (t : Fin cfg1.N) : iblk1 V c 2 t = V c main_arg2 := by
  funext y
  obtain ⟨d, rfl⟩ : ∃ d : Fin 16, y = ix1 d := ⟨y 0, eq_ix1 y⟩
  show iblk1 V c 2 t (ix1 d) = V c main_arg2 (ix1 d)
  blk_ext [iblk1, index1_2]

/-- The call's only point reads all of window 3. -/
theorem index1_3 : ∀ t : Fin cfg1.N, win1_3.index t = ![0] :=
  (by decide +kernel : ∀ t : Fin grid1.N, _)

/-- What the call reads of window 3 is the whole argument. -/
theorem iblk1_3_eq (c : Dev nD) (t : Fin cfg1.N) : iblk1 V c 3 t = V c main_arg3 := by
  funext y
  obtain ⟨d, rfl⟩ : ∃ d : Fin 16, y = ix1 d := ⟨y 0, eq_ix1 y⟩
  show iblk1 V c 3 t (ix1 d) = V c main_arg3 (ix1 d)
  blk_ext [iblk1, index1_3]

/-- The call's only point reads all of window 4. -/
theorem index1_4 : ∀ t : Fin cfg1.N, win1_4.index t = ![0] :=
  (by decide +kernel : ∀ t : Fin grid1.N, _)

/-- What the call reads of window 4 is the whole argument. -/
theorem iblk1_4_eq (c : Dev nD) (t : Fin cfg1.N) : iblk1 V c 4 t = V c main_arg4 := by
  funext y
  obtain ⟨d, rfl⟩ : ∃ d : Fin 16, y = ix1 d := ⟨y 0, eq_ix1 y⟩
  show iblk1 V c 4 t (ix1 d) = V c main_arg4 (ix1 d)
  blk_ext [iblk1, index1_4]

/-- The call's only point reads all of window 5. -/
theorem index1_5 : ∀ t : Fin cfg1.N, win1_5.index t = ![0] :=
  (by decide +kernel : ∀ t : Fin grid1.N, _)

/-- What the call reads of window 5 is the whole argument. -/
theorem iblk1_5_eq (c : Dev nD) (t : Fin cfg1.N) : iblk1 V c 5 t = V c main_arg5 := by
  funext y
  obtain ⟨d, rfl⟩ : ∃ d : Fin 16, y = ix1 d := ⟨y 0, eq_ix1 y⟩
  show iblk1 V c 5 t (ix1 d) = V c main_arg5 (ix1 d)
  blk_ext [iblk1, index1_5]

/-- The call's only point reads all of window 6. -/
theorem index1_6 : ∀ t : Fin cfg1.N, win1_6.index t = ![0] :=
  (by decide +kernel : ∀ t : Fin grid1.N, _)

/-- What the call reads of window 6 is the whole argument. -/
theorem iblk1_6_eq (c : Dev nD) (t : Fin cfg1.N) : iblk1 V c 6 t = V c main_arg6 := by
  funext y
  obtain ⟨d, rfl⟩ : ∃ d : Fin 16, y = ix1 d := ⟨y 0, eq_ix1 y⟩
  show iblk1 V c 6 t (ix1 d) = V c main_arg6 (ix1 d)
  blk_ext [iblk1, index1_6]

/-- The call's only point reads all of window 7. -/
theorem index1_7 : ∀ t : Fin cfg1.N, win1_7.index t = ![0] :=
  (by decide +kernel : ∀ t : Fin grid1.N, _)

/-- What the call reads of window 7 is the whole argument. -/
theorem iblk1_7_eq (c : Dev nD) (t : Fin cfg1.N) : iblk1 V c 7 t = V c main_arg7 := by
  funext y
  obtain ⟨d, rfl⟩ : ∃ d : Fin 16, y = ix1 d := ⟨y 0, eq_ix1 y⟩
  show iblk1 V c 7 t (ix1 d) = V c main_arg7 (ix1 d)
  blk_ext [iblk1, index1_7]

/-- The call's only point reads all of window 8. -/
theorem index1_8 : ∀ t : Fin cfg1.N, win1_8.index t = ![0] :=
  (by decide +kernel : ∀ t : Fin grid1.N, _)

/-- What the call reads of window 8 is the whole argument. -/
theorem iblk1_8_eq (c : Dev nD) (t : Fin cfg1.N) : iblk1 V c 8 t = V c main_arg8 := by
  funext y
  obtain ⟨d, rfl⟩ : ∃ d : Fin 16, y = ix1 d := ⟨y 0, eq_ix1 y⟩
  show iblk1 V c 8 t (ix1 d) = V c main_arg8 (ix1 d)
  blk_ext [iblk1, index1_8]

/-- The call's only point reads all of window 9. -/
theorem index1_9 : ∀ t : Fin cfg1.N, win1_9.index t = ![0] :=
  (by decide +kernel : ∀ t : Fin grid1.N, _)

/-- What the call reads of window 9 is the whole argument. -/
theorem iblk1_9_eq (c : Dev nD) (t : Fin cfg1.N) : iblk1 V c 9 t = V c main_arg9 := by
  funext y
  obtain ⟨d, rfl⟩ : ∃ d : Fin 16, y = ix1 d := ⟨y 0, eq_ix1 y⟩
  show iblk1 V c 9 t (ix1 d) = V c main_arg9 (ix1 d)
  blk_ext [iblk1, index1_9]

/-- The call's only point reads all of window 10. -/
theorem index1_10 : ∀ t : Fin cfg1.N, win1_10.index t = ![0] :=
  (by decide +kernel : ∀ t : Fin grid1.N, _)

/-- What the call reads of window 10 is the whole argument. -/
theorem iblk1_10_eq (c : Dev nD) (t : Fin cfg1.N) : iblk1 V c 10 t = V c main_arg10 := by
  funext y
  obtain ⟨d, rfl⟩ : ∃ d : Fin 16, y = ix1 d := ⟨y 0, eq_ix1 y⟩
  show iblk1 V c 10 t (ix1 d) = V c main_arg10 (ix1 d)
  blk_ext [iblk1, index1_10]

/-- The call's only point reads all of window 11. -/
theorem index1_11 : ∀ t : Fin cfg1.N, win1_11.index t = ![0] :=
  (by decide +kernel : ∀ t : Fin grid1.N, _)

/-- What the call reads of window 11 is the whole argument. -/
theorem iblk1_11_eq (c : Dev nD) (t : Fin cfg1.N) : iblk1 V c 11 t = V c main_arg11 := by
  funext y
  obtain ⟨d, rfl⟩ : ∃ d : Fin 64, y = ix1 d := ⟨y 0, eq_ix1 y⟩
  show iblk1 V c 11 t (ix1 d) = V c main_arg11 (ix1 d)
  blk_ext [iblk1, index1_11]

/-- The call's only point writes all of the parameters. -/
theorem index1_12 : ∀ t : Fin cfg1.N, win1_12.index t = ![0, 0] :=
  (by decide +kernel : ∀ t : Fin grid1.N, _)

/-- What the call leaves at a row and a group. -/
theorem outsAt1_apply (c : Dev nD) (t : Fin cfg1.N) (r : Fin 20) (d : Fin 16) :
    outsAt1 V c t (ix2 r d) = paramsOf (V c main_v0) (V c main_arg1) (V c main_arg2) (V c main_arg3) (V c main_arg4) (V c main_arg5) (V c main_arg6) (V c main_arg7) (V c main_arg8) (V c main_arg9) (V c main_arg10) (V c main_arg11) (ix2 r d) := by
  unfold outsAt1
  rw [out1_A_12_apply, iblk1_0_eq, iblk1_1_eq, iblk1_2_eq, iblk1_3_eq, iblk1_4_eq, iblk1_5_eq, iblk1_6_eq, iblk1_7_eq, iblk1_8_eq, iblk1_9_eq, iblk1_10_eq, iblk1_11_eq]

/-- After the preparation call its result holds the parameters. -/
theorem arr1 (c : Dev nD) : (dat1 V c).arrAt 12 cfg1.N = paramsOf (V c main_v0) (V c main_arg1) (V c main_arg2) (V c main_arg3) (V c main_arg4) (V c main_arg5) (V c main_arg6) (V c main_arg7) (V c main_arg8) (V c main_arg9) (V c main_arg10) (V c main_arg11) := by
  refine (dat1 V c).arrAt_eq_of_covers 12 _ (by decide +kernel) fun t hf y => ?_
  blk_simp
  rw [after1_12]
  obtain ⟨r, d, rfl⟩ : ∃ (r : Fin 20) (d : Fin 16), y = ix2 r d := ⟨y 0, y 1, eq_ix2 y⟩
  have e : ((win1_12.blk t).view.emb (ix2 r d) : S20x16.Idx) = ix2 r d := by
    blk_ext [index1_12]
  rw [e]
  exact outsAt1_apply V c t r d

end Cert.KernelIdeal.Own

end
-- ==== Proof.Val2.lean ====
/- The application call, read at an index: each plane is an affine combination of the four planes of its group. -/
module

public import proofs.«01_k».proof.Proof.Frame2
public import proofs.«01_k».proof.Proof.Spec
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem
open Idealize.ShloMosaic.Pipeline (Dat Cfg Window)

set_option maxHeartbeats 8000000 in
/-- One point leaves in its block, at channel `ch`, that channel's affine combination of its group's four planes. -/
theorem out2_A_2_apply (c : Dev nD) (i : grid2.Coords) (a2 : Memref sig .tc .smem S20x16 .f32) (h2 : a2.IsWhole) (a3 : Memref sig .tc .vmem S1x64x128x256 .f32) (h3 : a3.IsWhole)
    (a4 : Memref sig .tc .vmem S1x64x128x256 .f32) (h4 : a4.IsWhole)
    (P : Vec Ideal S20x16 .f32) (X : Vec Ideal S1x64x128x256 .f32) (ch : Fin 64) (h : Fin 128) (w : Fin 256) :
    out2_A_2 c i a2 h2 a3 h3 a4 h4 P X (ix4 0 ch h w)
      = affine P (fun p => X (ix4 0 (chan p ⟨ch.val % 16, Nat.mod_lt _ (by omega)⟩) h w)) ⟨ch.val / 16, by omega⟩ ⟨ch.val % 16, Nat.mod_lt _ (by omega)⟩ := by
  frame_out
  canon_tiles x h
  all_goals
    idx_vars x
    obtain rfl : h = x2 := Fin.ext h2
    obtain rfl : w = x3 := Fin.ext h3
    obtain rfl : x1 = 0 := Subsingleton.elim _ _
    obtain ⟨ch, hk⟩ := ch
    simp only [Fin.val_zero, Nat.add_zero] at h1
    subst h1
    open_payloads
    pointwise
    rfl

/-- Every point reads the whole parameter array. -/
theorem index2_0 : ∀ t : Fin cfg2.N, win2_0.index t = ![0, 0] :=
  (by decide +kernel : ∀ t : Fin grid2.N, _)

/-- Point `t` reads image `t / 2`, its half `t % 2`. -/
theorem index2_1 : ∀ t : Fin cfg2.N, win2_1.index t = ![t.val / 2, 0, t.val % 2, 0] :=
  (by decide +kernel : ∀ t : Fin grid2.N, _)

/-- Point `t` writes image `t / 2`, its half `t % 2`. -/
theorem index2_2 : ∀ t : Fin cfg2.N, win2_2.index t = ![t.val / 2, 0, t.val % 2, 0] :=
  (by decide +kernel : ∀ t : Fin grid2.N, _)

variable (V : (c : Dev nD) → (b : Ref sig .tc) → Buf (Elt Ideal) ((c : Thread nD τ).loc b))

/-- The parameters that a point reads are the parameter array. -/
theorem iblk2_0_apply (c : Dev nD) (t : Fin cfg2.N) (r : Fin 20) (d : Fin 16) :
    iblk2 V c 0 t (ix2 r d) = V c main_v1 (ix2 r d) := by
  blk_ext [iblk2, index2_0]

/-- The block that point `t` reads, at its coordinates in the whole array. -/
theorem iblk2_1_apply (c : Dev nD) (t : Fin cfg2.N) (ch : Fin 64) (h : Fin 128) (w : Fin 256) :
    iblk2 V c 1 t (ix4 0 ch h w)
      = V c main_arg0 (ix4 ⟨t.val / 2, by have := t.isLt; have : cfg2.N = 32 := N_2; omega⟩ ch ⟨128 * (t.val % 2) + h.val, by omega⟩ w) := by
  blk_ext [iblk2, index2_1]

/-- The result of the application call: every plane's affine combination, at every position. -/
def applied (P : Vec Ideal S20x16 .f32) (x : Vec Ideal S16x64x256x256 .f32) : Vec Ideal S16x64x256x256 .f32 := fun i =>
  affine P (fun p => x (ix4 (i 0) (chan p ⟨(i 1).val % 16, Nat.mod_lt _ (by omega)⟩) (i 2) (i 3)))
    ⟨(i 1).val / 16, by have : (i 1).val < 64 := (i 1).isLt; omega⟩ ⟨(i 1).val % 16, Nat.mod_lt _ (by omega)⟩

/-- What point `t` leaves, at its coordinates in the whole array. -/
theorem outsAt2_apply (c : Dev nD) (t : Fin cfg2.N) (b : Fin 16) (hb : t.val / 2 = b.val) (r : Fin 256) (ch : Fin 64) (h : Fin 128)
    (hr : r.val = 128 * (t.val % 2) + h.val) (w : Fin 256) :
    outsAt2 V c t (ix4 0 ch h w) = applied (V c main_v1) (V c main_arg0) (ix4 b ch r w) := by
  obtain ⟨b, hb'⟩ := b
  obtain ⟨r, hr'⟩ := r
  simp only at hb hr
  subst hb hr
  unfold outsAt2
  rw [out2_A_2_apply]
  unfold applied affine
  simp only [iblk2_0_apply, iblk2_1_apply]
  rfl

/-- After the application call its result holds the affine combinations of the two operands. -/
theorem arr2 (c : Dev nD) : (dat2 V c).arrAt 2 cfg2.N = applied (V c main_v1) (V c main_arg0) := by
  refine (dat2 V c).arrAt_eq_of_covers 2 _ (by decide +kernel) fun t hf y => ?_
  blk_simp
  rw [after2_2]
  obtain ⟨z, k, d, w, rfl⟩ : ∃ (z : Fin 1) (k : Fin 64) (d : Fin 128) (w : Fin 256), y = ix4 z k d w := ⟨y 0, y 1, y 2, y 3, eq_ix4 y⟩
  obtain rfl : z = 0 := Subsingleton.elim _ _
  have hN : cfg2.N = 32 := N_2
  have ht : t.val < cfg2.N := t.isLt
  have hb : t.val / 2 < 16 := by omega
  have hr : 128 * (t.val % 2) + d.val < 256 := by omega
  have e : ((win2_2.blk t).view.emb (ix4 0 k d w) : S16x64x256x256.Idx) = ix4 ⟨t.val / 2, hb⟩ k ⟨128 * (t.val % 2) + d.val, hr⟩ w := by
    blk_ext [index2_2]
  rw [e]
  exact outsAt2_apply V c t ⟨t.val / 2, hb⟩ rfl ⟨128 * (t.val % 2) + d.val, hr⟩ k d rfl w

end Cert.KernelIdeal.Own

end
-- ==== Proof.Agree.lean ====
/- On real data the kernel's three calls and the reference compute the same array. -/
module

public import proofs.«01_k».proof.Proof.Math
public import proofs.«01_k».proof.Proof.Val0
public import proofs.«01_k».proof.Proof.Val1
public import proofs.«01_k».proof.Proof.Val2

@[expose] public section

set_option maxRecDepth 16384

noncomputable section

namespace Cert.KernelIdeal.Own

open Cert.KernelIdeal Idealize.ShloMosaic
open Cert.ReferenceIdeal.Own (cent covOf apply4 refAt)

/-- An array all of whose entries are real numbers. -/
def AllReal {s : Shape} (v : s.Idx → EReal) : Prop := ∀ i, ∃ r : ℝ, v i = (r : EReal)

/-- A matrix built symmetric is symmetric. -/
theorem factor_symm (C : Fin 4 → Fin 4 → EReal) (a b : Fin 4) : factor C a b = factor C b a := by
  unfold factor
  generalize w00 C = c0, w01 C = c1, w02 C = c2, w03 C = c3, w11 C = c4, w12 C = c5, w13 C = c6, w22 C = c7, w23 C = c8, w33 C = c9
  fin_cases a <;> fin_cases b <;> rfl

/-- A symmetric matrix of ten reals is real. -/
theorem sym4_real {a0 a1 a2 a3 a4 a5 a6 a7 a8 a9 : EReal} {r0 r1 r2 r3 r4 r5 r6 r7 r8 r9 : ℝ}
    (h0 : a0 = r0) (h1 : a1 = r1) (h2 : a2 = r2) (h3 : a3 = r3) (h4 : a4 = r4) (h5 : a5 = r5) (h6 : a6 = r6) (h7 : a7 = r7) (h8 : a8 = r8) (h9 : a9 = r9)
    (a b : Fin 4) : sym4 a0 a1 a2 a3 a4 a5 a6 a7 a8 a9 a b = ((sym4 r0 r1 r2 r3 r4 r5 r6 r7 r8 r9 a b : ℝ) : EReal) := by
  subst h0 h1 h2 h3 h4 h5 h6 h7 h8 h9
  fin_cases a <;> fin_cases b <;> rfl

section data

variable {x : Vec Ideal S16x64x256x256 .f32} {d : Fin 16} {f : Fin 4 → Fin 16 → Fin 256 → Fin 256 → ℝ}
variable (hf : ∀ q b h w, x (ix4 b (chan q d) h w) = (f q b h w : EReal))

include hf

/-- The two programs' covariances of real data are the same. -/
theorem rawCov_covOf : rawCov (partialOf x) d = covOf x d := by
  funext a b
  rw [rawCov_coe hf, covOf_coe hf, cov_eq]

/-- The factor of the stabilized covariances of real data is real. -/
theorem factor_cov : ∃ W : Fin 4 → Fin 4 → ℝ, ∀ a b, factor (stab (covOf x d)) a b = (W a b : EReal) := by
  obtain ⟨ε, hε, eε⟩ := bits_eps
  refine factor_real (C := fun a b => if a = b
      then rsum (fun i h w => (f a i h w - rsum (f a) / 1048576) * (f b i h w - rsum (f b) / 1048576)) / 1048576 + ε
      else rsum (fun i h w => (f a i h w - rsum (f a) / 1048576) * (f b i h w - rsum (f b) / 1048576)) / 1048576) hε (fun a b => ?_)
    (fun v => quad_cov (fun a i h w => f a i h w - rsum (f a) / 1048576) ε v) (fun a b => ?_)
  · by_cases h : a = b
    · rw [h]
    · simp only [if_neg h, if_neg (Ne.symm h), mul_comm]
  · unfold stab
    by_cases h : a = b
    · simp only [if_pos h]
      rw [covOf_coe hf, eε, ← EReal.coe_add]
    · simp only [if_neg h]
      rw [covOf_coe hf]

/-- On real data, and with real gains, the kernel's formula at a position is the reference's. -/
theorem formula_agree {G : Fin 4 → Fin 4 → EReal} {G' : Fin 4 → Fin 4 → ℝ} (hG : ∀ a b, G a b = (G' a b : EReal)) (β : EReal) (q : Fin 4)
    (b : Fin 16) (h w : Fin 256) :
    x (ix4 b (chan 0 d) h w) * coeff G (factor (stab (rawCov (partialOf x) d))) q 0 + x (ix4 b (chan 1 d) h w) * coeff G (factor (stab (rawCov (partialOf x) d))) q 1
      + x (ix4 b (chan 2 d) h w) * coeff G (factor (stab (rawCov (partialOf x) d))) q 2 + x (ix4 b (chan 3 d) h w) * coeff G (factor (stab (rawCov (partialOf x) d))) q 3
      + offset G (factor (stab (rawCov (partialOf x) d))) (meanOf (partialOf x) d) β q = refAt x G β q d b h w := by
  rw [rawCov_covOf hf]
  obtain ⟨W', hW⟩ := factor_cov hf
  have e := formulas_eq hG hW (factor_symm _) (X := fun p => x (ix4 b (chan p d) h w)) (fun a => hf a b h w) (fun a => meanOf_coe hf a) β q
  rw [refAt, show (fun p => cent x d p b h w) = fun p => ((f p b h w - rsum (f p) / 1048576 : ℝ) : EReal) from funext fun p => cent_coe hf p b h w]
  exact e

end data

/-- The channel's component. -/
theorem chan_div (q : Fin 4) (d : Fin 16) (h : (chan q d).val / 16 < 4) : (⟨(chan q d).val / 16, h⟩ : Fin 4) = q :=
  Fin.ext (by show (16 * q.val + d.val) / 16 = q.val; omega)

/-- The channel's group. -/
theorem chan_mod (q : Fin 4) (d : Fin 16) (h : (chan q d).val % 16 < 16) : (⟨(chan q d).val % 16, h⟩ : Fin 16) = d :=
  Fin.ext (by show (16 * q.val + d.val) % 16 = d.val; omega)

/-- Every channel is a component of a group. -/
theorem chan_surj (c : Fin 64) : ∃ q d, c = chan q d :=
  ⟨⟨c.val / 16, by omega⟩, ⟨c.val % 16, by omega⟩, Fin.ext (by show c.val = 16 * (c.val / 16) + c.val % 16; omega)⟩

/-- The combination at equal components and groups is the same. -/
theorem affine_congr (P : Vec Ideal S20x16 .f32) (x : Vec Ideal S16x64x256x256 .f32) (b : Fin 16) (h w : Fin 256) {q q' : Fin 4} {d d' : Fin 16} (hq : q' = q)
    (hd : d' = d) : affine P (fun p => x (ix4 b (chan p d') h w)) q' d' = affine P (fun p => x (ix4 b (chan p d) h w)) q d := by
  subst hq hd
  rfl

/-- The application call's result at an index. -/
theorem applied_at (P : Vec Ideal S20x16 .f32) (x : Vec Ideal S16x64x256x256 .f32) (q : Fin 4) (b d : Fin 16) (h w : Fin 256) :
    applied P x (ix4 b (chan q d) h w) = affine P (fun p => x (ix4 b (chan p d) h w)) q d :=
  affine_congr P x b h w (chan_div q d _) (chan_mod q d _)

section arrays

variable {x : Vec Ideal S16x64x256x256 .f32} {g1 g2 g3 g4 g5 g6 g7 g8 g9 g10 : Vec Ideal S16 .f32} (β : Vec Ideal S64 .f32)

/-- A row of coefficients, at an index. -/
theorem paramsOf_coeff (x0 : Vec Ideal S16x14x16x256 .f32) (d : Fin 16) (r : Fin 20) (q p : Fin 4) (h : r.val = 4 * q.val + p.val) :
    paramsOf x0 g1 g2 g3 g4 g5 g6 g7 g8 g9 g10 β (ix2 r d) = coeff (gammaOf g1 g2 g3 g4 g5 g6 g7 g8 g9 g10 d) (factor (stab (rawCov x0 d))) q p :=
  params_coeff _ _ _ _ r q p h

/-- A row of shifts, at an index. -/
theorem paramsOf_offset (x0 : Vec Ideal S16x14x16x256 .f32) (d : Fin 16) (r : Fin 20) (q : Fin 4) (h : r.val = 16 + q.val) :
    paramsOf x0 g1 g2 g3 g4 g5 g6 g7 g8 g9 g10 β (ix2 r d)
      = offset (gammaOf g1 g2 g3 g4 g5 g6 g7 g8 g9 g10 d) (factor (stab (rawCov x0 d))) (meanOf x0 d) (β (ix1 (chan q d))) q :=
  params_offset _ _ _ _ r q h

/-- On a real input and real gains, the kernel's array at an index is the reference's formula. -/
theorem applied_agree (hx : AllReal x) (h1 : AllReal g1) (h2 : AllReal g2) (h3 : AllReal g3) (h4 : AllReal g4) (h5 : AllReal g5) (h6 : AllReal g6) (h7 : AllReal g7)
    (h8 : AllReal g8) (h9 : AllReal g9) (h10 : AllReal g10) (q : Fin 4) (b d : Fin 16) (h w : Fin 256) :
    applied (paramsOf (partialOf x) g1 g2 g3 g4 g5 g6 g7 g8 g9 g10 β) x (ix4 b (chan q d) h w)
      = refAt x (gammaOf g1 g2 g3 g4 g5 g6 g7 g8 g9 g10 d) (β (ix1 (chan q d))) q d b h w := by
  choose f hf using hx
  choose r1 e1 using h1
  choose r2 e2 using h2
  choose r3 e3 using h3
  choose r4 e4 using h4
  choose r5 e5 using h5
  choose r6 e6 using h6
  choose r7 e7 using h7
  choose r8 e8 using h8
  choose r9 e9 using h9
  choose r10 e10 using h10
  rw [applied_at, affine, paramsOf_coeff β _ d _ q 0 rfl, paramsOf_coeff β _ d _ q 1 rfl, paramsOf_coeff β _ d _ q 2 rfl, paramsOf_coeff β _ d _ q 3 rfl,
    paramsOf_offset β _ d _ q rfl]
  exact formula_agree (f := fun q b h w => f (ix4 b (chan q d) h w)) (fun q b h w => hf _)
    (fun a b => sym4_real (e1 _) (e2 _) (e3 _) (e4 _) (e5 _) (e6 _) (e7 _) (e8 _) (e9 _) (e10 _) a b) _ q b h w

end arrays

end Cert.KernelIdeal.Own

end
-- ==== Proof.Pre.lean ====
/- What the precondition says of the extended reals it is asked of. -/
module

public import proofs.«01_k».proof.Pre_finite
public import proofs.«01_k».proof.Proof.Agree
public import Idealize.ShloMosaic.Lib.ReduceAll

@[expose] public section

set_option maxRecDepth 16384

noncomputable section

namespace Cert.Pre_finite.Own

open Cert.Pre_finite Cert.Pre_finite.Facts Idealize.ShloMosaic
open Cert.KernelIdeal.Own (AllReal)

/-- The shape relations of the precondition hold. -/
theorem facts : Facts := ⟨by decide, by decide, by decide, by decide, by decide⟩

/-- The bound the precondition compares with is infinity. -/
theorem bits_inf : Ideal.ofBits .f32 0x7F800000#32 = ⊤ := by
  simp [Ideal.ofBits, Ideal.ieee]

/-- An extended real whose magnitude is below infinity is a real number. -/
theorem real_of_abs_lt {e : EReal} (h : max e (-e) < ⊤) : ∃ r : ℝ, e = (r : EReal) := by
  induction e using EReal.rec with
  | bot => simp at h
  | coe r => exact ⟨r, rfl⟩
  | top => simp at h

/-- A comparison with infinity that came out 1 says its operand is a real number. -/
theorem real_of_cmp {e : EReal} (h : Ideal.cmp .olt (max e (-e)) (Ideal.ofBits .f32 0x7F800000#32) = 1#1) : ∃ r : ℝ, e = (r : EReal) := by
  rw [bits_inf] at h
  refine real_of_abs_lt ?_
  by_contra hn
  have e0 : Ideal.cmp .olt (max e (-e)) ⊤ = BitVec.ofBool (decide (max e (-e) < ⊤)) := rfl
  rw [e0, decide_eq_false hn] at h
  exact absurd h (by decide)

/-- A scalar has one index. -/
instance : Subsingleton S_.Idx := ⟨fun i j => funext fun k => Fin.elim0 k⟩

/-- If every magnitude of an array is below infinity, every entry is a real number. -/
theorem all_real {s : Shape} (v : FVec Ideal s .f32) (hb : S_.BroadcastsInDim s (![] : Fin 0 → Fin s.rank)) {axes : List (Fin s.rank)} (hr : s.ReducesTo axes S_)
    (hu : 0 < S_.numel) (j : S_.Idx)
    (e : Host.reduce IntOp.andi (cmpf .olt (Host.absf v) (broadcastInDim s ![] hb (constant (F := Ideal) S_ .f32 0x7F800000#32))) (constantI S_ 1 1#1) hr hu j = 1#1) :
    AllReal v := fun i =>
  real_of_cmp (Host.reduce_andi_all _ _ hr hu j e i)

/-- A conjunction that is 1 has both its sides 1. -/
theorem and_at {a b : IVec S_ 1} {j : S_.Idx} (h : andi a b j = 1#1) : a j = 1#1 ∧ b j = 1#1 := IntOp.andi_eq_one.1 h

/-- Where the precondition holds, the input and the ten gains are real. -/
theorem finite_real [Facts] {x : FVec Ideal S16x64x256x256 .f32} {g1 g2 g3 g4 g5 g6 g7 g8 g9 g10 : FVec Ideal S16 .f32} {β : FVec Ideal S64 .f32}
    (e : fn (F := Ideal) x g1 g2 g3 g4 g5 g6 g7 g8 g9 g10 β = fun _ => 1#1) :
    AllReal x ∧ AllReal g1 ∧ AllReal g2 ∧ AllReal g3 ∧ AllReal g4 ∧ AllReal g5 ∧ AllReal g6 ∧ AllReal g7 ∧ AllReal g8 ∧ AllReal g9 ∧ AllReal g10 := by
  have h := congrFun e (Shape.Idx.first (s := S_) h_S_)
  dsimp only [fn, fn_part1, fn_part2, fn_part3] at h
  obtain ⟨h, e10⟩ := and_at h
  obtain ⟨h, e9⟩ := and_at h
  obtain ⟨h, e8⟩ := and_at h
  obtain ⟨h, e7⟩ := and_at h
  obtain ⟨h, e6⟩ := and_at h
  obtain ⟨h, e5⟩ := and_at h
  obtain ⟨h, e4⟩ := and_at h
  obtain ⟨h, e3⟩ := and_at h
  obtain ⟨h, e2⟩ := and_at h
  obtain ⟨h, e1⟩ := and_at h
  exact ⟨all_real _ _ _ _ _ h, all_real _ _ _ _ _ e1, all_real _ _ _ _ _ e2, all_real _ _ _ _ _ e3, all_real _ _ _ _ _ e4, all_real _ _ _ _ _ e5,
    all_real _ _ _ _ _ e6, all_real _ _ _ _ _ e7, all_real _ _ _ _ _ e8, all_real _ _ _ _ _ e9, all_real _ _ _ _ _ e10⟩

end Cert.Pre_finite.Own

end
-- ==== Proof.Final.lean ====
/- The kernel's run leaves the reference's result. -/
module

public import proofs.«01_k».proof.Defs
public import proofs.«01_k».proof.Proof.Run
public import proofs.«01_k».proof.Proof.Pre
public import proofs.«01_k».proof.Proof.Gen.ReferenceIdeal.Run

@[expose] public section

set_option maxRecDepth 16384

noncomputable section

namespace Cert.KernelIdeal.Own

open Cert.KernelIdeal Cert.KernelIdeal.Gen Idealize.ShloMosaic Idealize.ShloMosaic.TcCoe Idealize.ShloMosaic.Tactic Idealize.SL.Sem
open Cert.ReferenceIdeal.Own (result result_at)

section kernel

variable (m : (ℓ : Loc nD τ sig) → Buf (Elt Ideal) ℓ) (ρ : Dev nD → PrngReg) (c : Dev nD)

/-- The kernel's result as a function of the launch's arguments. -/
def kernelResult : Vec Ideal S16x64x256x256 .f32 :=
  applied (paramsOf (partialOf (m ((c.tc : Thread nD τ).loc main_arg0))) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10))
    (m ((c.tc : Thread nD τ).loc main_arg11))) (m ((c.tc : Thread nD τ).loc main_arg0))

/-- The partial sums the first call leaves. -/
theorem partials : V1 m ρ c main_v0 = partialOf (m ((c.tc : Thread nD τ).loc main_arg0)) := (hF0 m ρ c 1).symm.trans (arr0 (V0 m ρ) c)

/-- An argument after the first call is as launched. -/
theorem arg1 (a : Ref sig .tc) (h : a ∈ argRefs) : V1 m ρ c a = m ((c.tc : Thread nD τ).loc a) := W1_args m ρ c a h

/-- An argument after the second call is as launched. -/
theorem arg2 (a : Ref sig .tc) (h : a ∈ argRefs) : V2 m ρ c a = m ((c.tc : Thread nD τ).loc a) := W2_args m ρ c a h

/-- The parameters the second call leaves. -/
theorem parameters : V2 m ρ c main_v1 = paramsOf (V1 m ρ c main_v0) (V1 m ρ c main_arg1) (V1 m ρ c main_arg2) (V1 m ρ c main_arg3) (V1 m ρ c main_arg4)
    (V1 m ρ c main_arg5) (V1 m ρ c main_arg6) (V1 m ρ c main_arg7) (V1 m ρ c main_arg8) (V1 m ρ c main_arg9) (V1 m ρ c main_arg10) (V1 m ρ c main_arg11) :=
  (hF1 m ρ c 12).symm.trans (arr1 (V1 m ρ) c)

/-- What the last call leaves in the result array. -/
theorem final_array : (dat2 (V2 m ρ) c).arrAt 2 cfg2.N = kernelResult m c := by
  rw [arr2, parameters, partials, arg2 m ρ c main_arg0 (by decide), arg1 m ρ c main_arg1 (by decide), arg1 m ρ c main_arg2 (by decide), arg1 m ρ c main_arg3 (by decide),
    arg1 m ρ c main_arg4 (by decide), arg1 m ρ c main_arg5 (by decide), arg1 m ρ c main_arg6 (by decide), arg1 m ρ c main_arg7 (by decide),
    arg1 m ρ c main_arg8 (by decide), arg1 m ρ c main_arg9 (by decide), arg1 m ρ c main_arg10 (by decide), arg1 m ρ c main_arg11 (by decide)]
  rfl

end kernel

/-- From equal real arguments, the kernel's result is the reference's. -/
theorem results_agree (L : Valuation Cert.ReferenceIdeal.τ Cert.ReferenceIdeal.sig (Elt Ideal)) {x : Vec Ideal S16x64x256x256 .f32}
    {g1 g2 g3 g4 g5 g6 g7 g8 g9 g10 : Vec Ideal S16 .f32} {β : Vec Ideal S64 .f32}
    (e0 : L (Proc.devRef .tc Cert.ReferenceIdeal.main_arg0) = x) (e1 : L (Proc.devRef .tc Cert.ReferenceIdeal.main_arg1) = g1)
    (e2 : L (Proc.devRef .tc Cert.ReferenceIdeal.main_arg2) = g2) (e3 : L (Proc.devRef .tc Cert.ReferenceIdeal.main_arg3) = g3)
    (e4 : L (Proc.devRef .tc Cert.ReferenceIdeal.main_arg4) = g4) (e5 : L (Proc.devRef .tc Cert.ReferenceIdeal.main_arg5) = g5)
    (e6 : L (Proc.devRef .tc Cert.ReferenceIdeal.main_arg6) = g6) (e7 : L (Proc.devRef .tc Cert.ReferenceIdeal.main_arg7) = g7)
    (e8 : L (Proc.devRef .tc Cert.ReferenceIdeal.main_arg8) = g8) (e9 : L (Proc.devRef .tc Cert.ReferenceIdeal.main_arg9) = g9)
    (e10 : L (Proc.devRef .tc Cert.ReferenceIdeal.main_arg10) = g10) (e11 : L (Proc.devRef .tc Cert.ReferenceIdeal.main_arg11) = β)
    (h : AllReal x ∧ AllReal g1 ∧ AllReal g2 ∧ AllReal g3 ∧ AllReal g4 ∧ AllReal g5 ∧ AllReal g6 ∧ AllReal g7 ∧ AllReal g8 ∧ AllReal g9 ∧ AllReal g10) :
    applied (paramsOf (partialOf x) g1 g2 g3 g4 g5 g6 g7 g8 g9 g10 β) x = result L := by
  subst e0 e1 e2 e3 e4 e5 e6 e7 e8 e9 e10 e11
  obtain ⟨h0, h1, h2, h3, h4, h5, h6, h7, h8, h9, h10⟩ := h
  funext i
  obtain ⟨q, d, hc⟩ := chan_surj (i 1)
  rw [ValueIdx.eq_ix4 i, hc]
  exact (applied_agree _ h0 h1 h2 h3 h4 h5 h6 h7 h8 h9 h10 q (i 0) d (i 2) (i 3)).trans (result_at L q (i 0) d (i 2) (i 3)).symm

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Transfer
public import proofs.«01_k».proof.Proof.Final
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The idealized kernel runs, keeps its arguments, and ends with every counter at zero. -/
theorem frame_kernelIdeal : Cert.quiescent_KernelIdeal := Cert.KernelIdeal.Own.quiescent Ideal

/-- The idealized reference runs, keeps its arguments, and ends with every counter at zero (it has none). -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- On a real input and real gains the idealized kernel and the idealized reference leave the same result. -/
theorem algebraic : Cert.algebraic_KernelIdeal_ReferenceIdeal_pre_finite (hPre_finite := Cert.Pre_finite.Own.facts) := by
  intro m g m' g' hpre hargs
  refine ⟨fun c => Cert.KernelIdeal.Own.kernelResult m c, ?_, ?_⟩
  · refine (θ_run Cert.KernelIdeal.defs _ _).mono (fun r h c => ⟨(h.1 c).1.trans ?_, (h.1 c).2⟩) (Cert.KernelIdeal.Own.run m g)
    exact Cert.KernelIdeal.Own.final_array m g c
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9, e10, e11⟩ := hargs c
    exact (Cert.KernelIdeal.Own.results_agree (StableHlo.launchContents m' c) e0 e1 e2 e3 e4 e5 e6 e7 e8 e9 e10 e11
      (@Cert.Pre_finite.Own.finite_real Cert.Pre_finite.Own.facts _ _ _ _ _ _ _ _ _ _ _ _ (hpre c))).symm

theorem claim : Cert.Claim := ⟨Cert.Kernel.Gen.facts, Cert.KernelIdeal.Gen.facts, Cert.ReferenceIdeal.Gen.facts, Cert.Pre_finite.Own.facts,
  Cert.KernelIdeal.Own.quiescent_Kernel, frame_kernelIdeal, fun m g _ => frame_kernelIdeal m g trivial,
  frame_referenceIdeal, fun m g _ => frame_referenceIdeal m g trivial, trivial, algebraic⟩

end Cert.Proof

end
